-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x4096x1024 : Shape := ⟨3, ![2, 4096, 1024]⟩
abbrev S1024x1024 : Shape := ⟨2, ![1024, 1024]⟩
abbrev S1024 : Shape := ⟨1, ![1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2x4096x1024 .f32) (main_arg1 : FVec F S2x4096x1024 .f32) (main_arg2 : FVec F S2x4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x4096x1024 .f32 := Host.absf main_arg1
  let main_cst_0 : FVec F S_ .f32 := constant S_ .f32 0x7F800000#32
  let main_v5 : FVec F S2x4096x1024 .f32 := broadcastInDim S2x4096x1024 ![] bcast_S_S2x4096x1024 main_cst_0
  let main_v6 : IVec S2x4096x1024 1 := cmpf .olt main_v4 main_v5
  let main_c_1 : IVec S_ 1 := constantI S_ 1 1#1
  let main_v7 : IVec S_ 1 := (fun x v => Host.reduce IntOp.andi x v reducesTo_S2x4096x1024_S_d0_1_2 h_S_) main_v6 main_c_1
  let main_v8 : IVec S_ 1 := andi main_v3 main_v7
  let main_v9 : FVec F S2x4096x1024 .f32 := Host.absf main_arg2
  let main_cst_2 : FVec F S_ .f32 := constant S_ .f32 0x7F800000#32
  let main_v10 : FVec F S2x4096x1024 .f32 := broadcastInDim S2x4096x1024 ![] bcast_S_S2x4096x1024 main_cst_2
  let main_v11 : IVec S2x4096x1024 1 := cmpf .olt main_v9 main_v10
  let main_c_3 : IVec S_ 1 := constantI S_ 1 1#1
  let main_v12 : IVec S_ 1 := (fun x v => Host.reduce IntOp.andi x v reducesTo_S2x4096x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2x4096x1024 : Shape := ⟨3, ![2, 4096, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S1x4096x128 : Shape := ⟨3, ![1, 4096, 128]⟩
abbrev S4096x128 : Shape := ⟨2, ![4096, 128]⟩
abbrev S64x8192 : Shape := ⟨2, ![64, 8192]⟩
abbrev S64x64x128 : Shape := ⟨3, ![64, 64, 128]⟩
abbrev S64x64x1 : Shape := ⟨3, ![64, 64, 1]⟩
abbrev S128 : Shape := ⟨1, ![128]⟩
abbrev S1x128 : Shape := ⟨2, ![1, 128]⟩
abbrev S16x128 : Shape := ⟨2, ![16, 128]⟩

abbrev nBuf : Space → Nat
  | .hbm => 43
  | .vmem => 30
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1x1024, .f32⟩
  | .hbm, ⟨10, _⟩ => ⟨S2x4096x1024, .f32⟩
  | .hbm, ⟨11, _⟩ => ⟨S1x1024, .f32⟩
  | .hbm, ⟨12, _⟩ => ⟨S2x4096x1024, .f32⟩
  | .hbm, ⟨13, _⟩ => ⟨S1x1024, .f32⟩
  | .hbm, ⟨14, _⟩ => ⟨S2x4096x1024, .f32⟩
  | .hbm, ⟨15, _⟩ => ⟨S64, .i32⟩
  | .hbm, ⟨16, _⟩ => ⟨S64x1, .i32⟩
  | .hbm, ⟨17, _⟩ => ⟨S1x64, .i32⟩
  | .hbm, ⟨18, _⟩ => ⟨S64x64, .i32⟩
  | .hbm, ⟨19, _⟩ => ⟨S64x64, .i32⟩
  | .hbm, ⟨20, _⟩ => ⟨S64x64, .i32⟩
  | .hbm, ⟨21, _⟩ => ⟨S_, .f32⟩
  | .hbm, ⟨22, _⟩ => ⟨S_, .f32⟩
  | .hbm, ⟨23, _⟩ => ⟨S_, .i32⟩
  | .hbm, ⟨24, _⟩ => ⟨S64x64, .i32⟩
  | .hbm, ⟨25, _⟩ => ⟨S64x64, .i32⟩
  | .hbm, ⟨26, _⟩ => ⟨S64x64, .f32⟩
  | .hbm, ⟨27, _⟩ => ⟨S_, .f32⟩
  | .hbm, ⟨28, _⟩ => ⟨S_, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S_, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S2x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .f32⟩
  | .local _ .vmem, ⟨3, _⟩ => ⟨S1x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1024x1024, .f32⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S64x64, .f32⟩
  | .local _ .vmem, ⟨19, _⟩ => ⟨S64x64, .f32⟩
  | .local _ .vmem, ⟨20, _⟩ => ⟨S64x64, .f32⟩
  | .local _ .vmem, ⟨21, _⟩ => ⟨S64x64, .f32⟩
  | .local _ .vmem, ⟨22, _⟩ => ⟨S1x4096x128, .f32⟩
  | .local _ .vmem, ⟨23, _⟩ => ⟨S1x4096x128, .f32⟩
  | .local _ .vmem, ⟨24, _⟩ => ⟨S1x4096x128, .f32⟩
  | .local _ .vmem, ⟨25, _⟩ => ⟨S1x4096x128, .f32⟩
  | .local _ .vmem, ⟨26, _⟩ => ⟨S1x4096x128, .f32⟩
  | .local _ .vmem, ⟨27, _⟩ => ⟨S1x4096x128, .f32⟩
  | .local _ .vmem, ⟨28, _⟩ => ⟨S1x4096x128, .f32⟩
  | .local _ .vmem, ⟨29, _⟩ => ⟨S1x4096x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg5_1 : Ref sig .tc := ⟨.vmem, 25, rfl⟩
abbrev cc3_stg6_0 : Ref sig .tc := ⟨.vmem, 26, rfl⟩
abbrev cc3_stg6_1 : Ref sig .tc := ⟨.vmem, 27, rfl⟩
abbrev cc3_stg7_0 : Ref sig .tc := ⟨.vmem, 28, rfl⟩
abbrev cc3_stg7_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc3_sem5_0 : DmaSem sig := 24
abbrev cc3_sem5_1 : DmaSem sig := 25
abbrev cc3_sem6_0 : DmaSem sig := 26
abbrev cc3_sem6_1 : DmaSem sig := 27
abbrev cc3_sem7_0 : DmaSem sig := 28
abbrev cc3_sem7_1 : DmaSem sig := 29

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![2, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage3_0 : Fin 1 → Memref sig .tc .vmem S64x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1x4096x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x4096x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x4096x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x4096x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]
-- ==== ReferenceIdeal.lean ====
abbrev S2x4096x1024 : Shape := ⟨3, ![2, 4096, 1024]⟩
abbrev S1024x1024 : Shape := ⟨2, ![1024, 1024]⟩
abbrev S1024 : Shape := ⟨1, ![1024]⟩
abbrev S1x1x1024 : Shape := ⟨3, ![1, 1, 1024]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2x1024x4096 : Shape := ⟨3, ![2, 1024, 4096]⟩
abbrev S2x1024x16 : Shape := ⟨3, ![2, 1024, 16]⟩
abbrev S2x1024 : Shape := ⟨2, ![2, 1024]⟩
abbrev S2x1024x1 : Shape := ⟨3, ![2, 1024, 1]⟩
abbrev S2x1024x16x1 : Shape := ⟨4, ![2, 1024, 16, 1]⟩
abbrev S1x1x1x4096 : Shape := ⟨4, ![1, 1, 1, 4096]⟩
abbrev S2x1024x16x4096 : Shape := ⟨4, ![2, 1024, 16, 4096]⟩
abbrev S2x1024x1x4096 : Shape := ⟨4, ![2, 1024, 1, 4096]⟩
abbrev S2x1024x16x4096x1 : Shape := ⟨5, ![2, 1024, 16, 4096, 1]⟩

abbrev nBuf : Space → Nat
  | .hbm => 104
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2x4096x1024, .f32⟩
  | .hbm, ⟨10, _⟩ => ⟨S1x1x1024, .f32⟩
  | .hbm, ⟨11, _⟩ => ⟨S2x4096x1024, .f32⟩
  | .hbm, ⟨12, _⟩ => ⟨S2x4096x1024, .f32⟩
  | .hbm, ⟨13, _⟩ => ⟨S2x4096x1024, .f32⟩
  | .hbm, ⟨14, _⟩ => ⟨S1x1x1024, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S1x1x1024, .f32⟩
  | .hbm, ⟨19, _⟩ => ⟨S2x4096x1024, .f32⟩
  | .hbm, ⟨20, _⟩ => ⟨S2x4096x1024, .f32⟩
  | .hbm, ⟨21, _⟩ => ⟨S4096, .i32⟩
  | .hbm, ⟨22, _⟩ => ⟨S_, .f32⟩
  | .hbm, ⟨23, _⟩ => ⟨S_, .f32⟩
  | .hbm, ⟨24, _⟩ => ⟨S4096x1, .i32⟩
  | .hbm, ⟨25, _⟩ => ⟨S1x4096, .i32⟩
  | .hbm, ⟨26, _⟩ => ⟨S4096x4096, .i32⟩
  | .hbm, ⟨27, _⟩ => ⟨S4096x4096, .i32⟩
  | .hbm, ⟨28, _⟩ => ⟨S4096x4096, .i32⟩
  | .hbm, ⟨29, _⟩ => ⟨S_, .i32⟩
  | .hbm, ⟨30, _⟩ => ⟨S4096x4096, .i32⟩
  | .hbm, ⟨31, _⟩ => ⟨S4096x4096, .i32⟩
  | .hbm, ⟨32, _⟩ => ⟨S4096x4096, .f32⟩
  | .hbm, ⟨33, _⟩ => ⟨S_, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S2x1024x4096, .f32⟩
  | .hbm, ⟨40, _⟩ => ⟨S2x4096x1024, .f32⟩
  | .hbm, ⟨41, _⟩ => ⟨S2x1024x4096, .f32⟩
  | .hbm, ⟨42, _⟩ => ⟨S2x4096x1024, .f32⟩
  | .hbm, ⟨43, _⟩ => ⟨S2x1024x4096, .f32⟩
  | .hbm, ⟨44, _⟩ => ⟨S2x4096x1024, .f32⟩
  | .hbm, ⟨45, _⟩ => ⟨S2x1024x4096, .f32⟩
  | .hbm, ⟨46, _⟩ => ⟨S2x4096x1024, .f32⟩
  | .hbm, ⟨47, _⟩ => ⟨S2x4096x1024, .f32⟩
  | .hbm, ⟨48, _⟩ => ⟨S2x4096x1024, .f32⟩
  | .hbm, ⟨49, _⟩ => ⟨S2x4096x1024, .f32⟩
  | .hbm, ⟨50, _⟩ => ⟨S2x4096x1024, .f32⟩
  | .hbm, ⟨51, _⟩ => ⟨S2x4096x1024, .f32⟩
  | .hbm, ⟨52, _⟩ => ⟨S2x4096x1024, .f32⟩
  | .hbm, ⟨53, _⟩ => ⟨S2x1024x4096, .f32⟩
  | .hbm, ⟨54, _⟩ => ⟨S2x4096x1024, .f32⟩
  | .hbm, ⟨55, _⟩ => ⟨S2x1024x4096, .f32⟩
  | .hbm, ⟨56, _⟩ => ⟨S2x4096x1024, .f32⟩
  | .hbm, ⟨57, _⟩ => ⟨S2x4096x1024, .f32⟩
  | .hbm, ⟨58, _⟩ => ⟨S_, .f32⟩
  | .hbm, ⟨59, _⟩ => ⟨S2x4096x1024, .f32⟩
  | .hbm, ⟨60, _⟩ => ⟨S2x4096x1024, .f32⟩
  | .hbm, ⟨61, _⟩ => ⟨S2x1024x4096, .f32⟩
  | .hbm, ⟨62, _⟩ => ⟨S2x1024x16, .f32⟩
  | .hbm, ⟨63, _⟩ => ⟨S2x1024x16, .i32⟩
  | .hbm, ⟨64, _⟩ => ⟨S_, .f32⟩
  | .hbm, ⟨65, _⟩ => ⟨S2x1024, .f32⟩
  | .hbm, ⟨66, _⟩ => ⟨S_, .f32⟩
  | .hbm, ⟨67, _⟩ => ⟨S2x1024, .f32⟩
  | .hbm, ⟨68, _⟩ => ⟨S2x1024, .f32⟩
  | .hbm, ⟨69, _⟩ => ⟨S2x1024x1, .f32⟩
  | .hbm, ⟨70, _⟩ => ⟨S2x1024x16, .f32⟩
  | .hbm, ⟨71, _⟩ => ⟨S2x1024x16, .f32⟩
  | .hbm, ⟨72, _⟩ => ⟨S2x1024x16, .f32⟩
  | .hbm, ⟨73, _⟩ => ⟨S_, .f32⟩
  | .hbm, ⟨74, _⟩ => ⟨S2x1024, .f32⟩
  | .hbm, ⟨75, _⟩ => ⟨S2x1024x1, .f32⟩
  | .hbm, ⟨76, _⟩ => ⟨S2x1024x16, .f32⟩
  | .hbm, ⟨77, _⟩ => ⟨S2x1024x16, .f32⟩
  | .hbm, ⟨78, _⟩ => ⟨S2x1024x4096, .f32⟩
  | .hbm, ⟨79, _⟩ => ⟨S2x1024x16x1, .i32⟩
  | .hbm, ⟨80, _⟩ => ⟨S1x1x1x4096, .i32⟩
  | .hbm, ⟨81, _⟩ => ⟨S2x1024x16x4096, .i32⟩
  | .hbm, ⟨82, _⟩ => ⟨S2x1024x16x4096, .i32⟩
  | .hbm, ⟨83, _⟩ => ⟨S2x1024x16x4096, .i32⟩
  | .hbm, ⟨84, _⟩ => ⟨S_, .i32⟩
  | .hbm, ⟨85, _⟩ => ⟨S2x1024x16x4096, .i32⟩
  | .hbm, ⟨86, _⟩ => ⟨S2x1024x16x4096, .i32⟩
  | .hbm, ⟨87, _⟩ => ⟨S2x1024x1x4096, .f32⟩
  | .hbm, ⟨88, _⟩ => ⟨S_, .i32⟩
  | .hbm, ⟨89, _⟩ => ⟨S2x1024x16x4096, .i32⟩
  | .hbm, ⟨90, _⟩ => ⟨S2x1024x16x4096, .i1⟩
  | .hbm, ⟨91, _⟩ => ⟨S_, .i32⟩
  | .hbm, ⟨92, _⟩ => ⟨S2x1024x16x4096, .i32⟩
  | .hbm, ⟨93, _⟩ => ⟨S2x1024x16x4096, .i32⟩
  | .hbm, ⟨94, _⟩ => ⟨S2x1024x16x4096, .i32⟩
  | .hbm, ⟨95, _⟩ => ⟨S2x1024x16x4096x1, .i32⟩
  | .hbm, ⟨96, _⟩ => ⟨S2x1024x4096, .f32⟩
  | .hbm, ⟨97, _⟩ => ⟨S2x1024x16x4096, .f32⟩
  | .hbm, ⟨98, _⟩ => ⟨S2x1024x16x1, .f32⟩
  | .hbm, ⟨99, _⟩ => ⟨S2x1024x16x4096, .f32⟩
  | .hbm, ⟨100, _⟩ => ⟨S2x1024x16x4096, .f32⟩
  | .hbm, ⟨101, _⟩ => ⟨S_, .f32⟩
  | .hbm, ⟨102, _⟩ => ⟨S2x1024x4096, .f32⟩
  | .hbm, ⟨103, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_1 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_values : Ref sig .tc := ⟨.hbm, 62, rfl⟩
abbrev main_indices : Ref sig .tc := ⟨.hbm, 63, rfl⟩
abbrev main_cst_2 : Ref sig .tc := ⟨.hbm, 64, rfl⟩
abbrev main_v49 : Ref sig .tc := ⟨.hbm, 65, rfl⟩
abbrev main_cst_3 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_4 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_c_5 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_call0_c : Ref sig .tc := ⟨.hbm, 88, rfl⟩
abbrev main_call0_v0 : Ref sig .tc := ⟨.hbm, 89, rfl⟩
abbrev main_call0_v1 : Ref sig .tc := ⟨.hbm, 90, rfl⟩
abbrev main_call0_c_0 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_v5 : Ref sig .tc := ⟨.hbm, 95, rfl⟩
abbrev main_call0_v6 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_6 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]
-- ==== Proof.Frames.lean ====
/- The claims without values: every program runs to its end from any memory, its arguments unchanged and its counters zero,
   and the idealization is the kernel's own text. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof.Frames

open Idealize.ShloMosaic Idealize.ShloMosaic.TcCoe Idealize.SL.Sem

/-- The shape relations the precondition states, decided. -/
theorem preFacts : Cert.Pre_finite.Facts where
  bcast_S_S2x4096x1024 := by decide
  reducesTo_S2x4096x1024_S_d0_1_2 := by decide
  h_S_ := by decide
  bcast_S_S1024x1024 := by decide
  reducesTo_S1024x1024_S_d0_1 := by decide
  bcast_S_S1024 := by decide
  reducesTo_S1024_S_d0 := by decide

/-- The kernel's frame. -/
theorem kernel : Cert.quiescent_Kernel := fun m ρ _ => Cert.Kernel.Gen.frame m ρ
/-- The idealized kernel's frame. -/
theorem kernelIdeal : Cert.quiescent_KernelIdeal := fun m ρ _ => Cert.KernelIdeal.Gen.frame m ρ
/-- The idealized reference's frame. -/
theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealization rewrites nothing. -/
theorem preserves : Cert.preserves_Kernel_KernelIdeal := trivial

end Cert.Proof.Frames

end
-- ==== Proof.Up.lean ====
/- Arrays of real numbers inside the extended reals, and the kernel's vector operations on them: an operation on such
   arrays is again such an array, so that a whole block computation over finite inputs becomes one over the reals. -/
module

public import proofs.«01_k».proof.Proof.Gen.KernelIdeal.Frame
public import Idealize.ShloMosaic.Lib.MatmulPlain
public import Idealize.ShloMosaic.Lib.ValueIdx
public import Idealize.ShloMosaic.Lib.ValueLayout
public import Idealize.ShloMosaic.Lib.ValueIdxCoords

@[expose] public section

noncomputable section

namespace Cert.Up

open Idealize.ShloMosaic Idealize.ShloMosaic.ValueIdx Cert.KernelIdeal Cert.KernelIdeal.Gen Finset

/-- A real function of one, two or three coordinates as an array of extended reals. -/
def up1 {n0 : ℕ} {φ : FTy} (f : ℕ → ℝ) : FVec Ideal ⟨1, ![n0]⟩ φ := fun i => ((f (i 0).val : ℝ) : EReal)
/-- The same for two coordinates. -/
def up2 {n0 n1 : ℕ} {φ : FTy} (f : ℕ → ℕ → ℝ) : FVec Ideal ⟨2, ![n0, n1]⟩ φ := fun i => ((f (i 0).val (i 1).val : ℝ) : EReal)
/-- The same for three coordinates. -/
def up3 {n0 n1 n2 : ℕ} {φ : FTy} (f : ℕ → ℕ → ℕ → ℝ) : FVec Ideal ⟨3, ![n0, n1, n2]⟩ φ :=
  fun i => ((f (i 0).val (i 1).val (i 2).val : ℝ) : EReal)

/-! ### The real operations -/

/-- A product of matrices with 64 contracted positions. -/
def rmm (A B : ℕ → ℕ → ℝ) : ℕ → ℕ → ℝ := fun i j => ∑ k ∈ range 64, A i k * B k j
/-- The sum. -/
def radd (A B : ℕ → ℕ → ℝ) : ℕ → ℕ → ℝ := fun i j => A i j + B i j
/-- The difference. -/
def rsub (A B : ℕ → ℕ → ℝ) : ℕ → ℕ → ℝ := fun i j => A i j - B i j
/-- The elementwise product. -/
def rmul (A B : ℕ → ℕ → ℝ) : ℕ → ℕ → ℝ := fun i j => A i j * B i j
/-- The sum, for three coordinates. -/
def radd3 (A B : ℕ → ℕ → ℕ → ℝ) : ℕ → ℕ → ℕ → ℝ := fun i j k => A i j k + B i j k
/-- The difference, for three coordinates. -/
def rsub3 (A B : ℕ → ℕ → ℕ → ℝ) : ℕ → ℕ → ℕ → ℝ := fun i j k => A i j k - B i j k
/-- The elementwise product, for three coordinates. -/
def rmul3 (A B : ℕ → ℕ → ℕ → ℝ) : ℕ → ℕ → ℕ → ℝ := fun i j k => A i j k * B i j k
/-- A table of turns, the same for every lane. -/
def rbc (T : ℕ → ℕ → ℝ) : ℕ → ℕ → ℕ → ℝ := fun i j _ => T i j
/-- The array that is zero everywhere. -/
def rz : ℕ → ℕ → ℝ := fun _ _ => 0
/-- `[64, 64, 128]` as `[64, 8192]` and back. -/
def rflat (h : ℕ → ℕ → ℕ → ℝ) : ℕ → ℕ → ℝ := fun a m => h a (m / 128) (m % 128)
/-- `[64, 8192]` as `[64, 64, 128]`. -/
def runflat (B : ℕ → ℕ → ℝ) : ℕ → ℕ → ℕ → ℝ := fun a b w => B a (b * 128 + w)
/-- `[4096, 128]` as `[64, 8192]` and back. -/
def rcols (X : ℕ → ℕ → ℝ) : ℕ → ℕ → ℝ := fun a m => X (a * 64 + m / 128) (m % 128)
/-- `[64, 8192]` as `[4096, 128]`. -/
def rrows (B : ℕ → ℕ → ℝ) : ℕ → ℕ → ℝ := fun n w => B (n / 64) (n % 64 * 128 + w)
/-- The first two axes exchanged. -/
def rswap (h : ℕ → ℕ → ℕ → ℝ) : ℕ → ℕ → ℕ → ℝ := fun a b w => h b a w

section
variable {n0 n1 n2 : ℕ} {φ ψ : FTy}

/-- The product of real arrays. -/
theorem mulf_up (A B : ℕ → ℕ → ℝ) : mulf (up2 A : FVec Ideal ⟨2, ![n0, n1]⟩ φ) (up2 B) = up2 (rmul A B) := by
  funext i; exact (EReal.coe_mul _ _).symm
/-- The sum of real arrays. -/
theorem addf_up (A B : ℕ → ℕ → ℝ) : addf (up2 A : FVec Ideal ⟨2, ![n0, n1]⟩ φ) (up2 B) = up2 (radd A B) := by
  funext i; exact (EReal.coe_add _ _).symm
/-- The difference of real arrays. -/
theorem subf_up (A B : ℕ → ℕ → ℝ) : subf (up2 A : FVec Ideal ⟨2, ![n0, n1]⟩ φ) (up2 B) = up2 (rsub A B) := by
  funext i; exact (EReal.coe_sub _ _).symm
/-- The sum, for three axes. -/
theorem addf_up3 (A B : ℕ → ℕ → ℕ → ℝ) : addf (up3 A : FVec Ideal ⟨3, ![n0, n1, n2]⟩ φ) (up3 B) = up3 (radd3 A B) := by
  funext i; exact (EReal.coe_add _ _).symm
/-- The difference, for three axes. -/
theorem subf_up3 (A B : ℕ → ℕ → ℕ → ℝ) : subf (up3 A : FVec Ideal ⟨3, ![n0, n1, n2]⟩ φ) (up3 B) = up3 (rsub3 A B) := by
  funext i; exact (EReal.coe_sub _ _).symm
/-- The product, for three axes. -/
theorem mulf_up3 (A B : ℕ → ℕ → ℕ → ℝ) : mulf (up3 A : FVec Ideal ⟨3, ![n0, n1, n2]⟩ φ) (up3 B) = up3 (rmul3 A B) := by
  funext i; exact (EReal.coe_mul _ _).symm
/-- A narrowing of the format changes no real number. -/
theorem truncf_up (A : ℕ → ℕ → ℝ) (h : ψ.bits < φ.bits) : truncf ψ (up2 A : FVec Ideal ⟨2, ![n0, n1]⟩ φ) h = up2 A := rfl
/-- Nor does a widening. -/
theorem extf_up (A : ℕ → ℕ → ℝ) (h : φ.bits < ψ.bits) : extf ψ (up2 A : FVec Ideal ⟨2, ![n0, n1]⟩ φ) h = up2 A := rfl

/-- The part of a finite array that its own rounding loses is zero: at the extended reals nothing is rounded. -/
theorem rsub_self (A : ℕ → ℕ → ℝ) : rsub A A = rz := by funext i j; exact sub_self _
/-- A product with zero on the right. -/
theorem rmm_rz (A : ℕ → ℕ → ℝ) : rmm A rz = rz := by funext i j; simp [rmm, rz]
/-- A product with zero on the left. -/
theorem rz_rmm (A : ℕ → ℕ → ℝ) : rmm rz A = rz := by funext i j; simp [rmm, rz]
/-- A sum with zero. -/
theorem radd_rz (A : ℕ → ℕ → ℝ) : radd A rz = A := by funext i j; exact add_zero _

/-- The zero array. -/
theorem constant_up : (constant S64x8192 .f32 0x00000000#32 : FVec Ideal S64x8192 .f32) = up2 rz := by
  funext i
  show Ideal.ofBits .f32 0x00000000#32 = ((0 : ℝ) : EReal)
  simp [Ideal.ofBits, Ideal.ieee]

/-- A finite sum of reals inside the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The product of real matrices. -/
theorem matmul_up (A B : ℕ → ℕ → ℝ) :
    matmul dot_S64x64_S64x8192_S64x8192_1_0_0_1_n_n none (up2 A : FVec Ideal S64x64 .bf16) (up2 B : FVec Ideal S64x8192 .bf16)
      (up2 rz) = up2 (rmm A B) := by
  funext j
  rw [eq_ix2 j]
  refine (Ideal.matmul_plain_apply (M := 64) (K := 64) (N := 8192) none _ _ _ _ _).trans ?_
  simp only [up2, ix2_0, ix2_1, rz, rmm, EReal.coe_zero, zero_add]
  rw [coe_sum, Finset.sum_range]
  exact Finset.sum_congr rfl fun k _ => (EReal.coe_mul _ _).symm

/-- A reshape to the same shape. -/
theorem cast_id_up (A : ℕ → ℕ → ℝ) (h : S64x64.ShapeCasts S64x64) :
    shapeCast S64x64 (up2 A : FVec Ideal S64x64 .f32) h = up2 A := by
  funext i; rw [shapeCast, Shape.reshapeEquiv_self]

/-- The reshape to `[64, 64, 128]`. -/
theorem unflat_up (B : ℕ → ℕ → ℝ) (h : S64x8192.ShapeCasts S64x64x128) :
    shapeCast S64x64x128 (up2 B : FVec Ideal S64x8192 .f32) h = up3 (runflat B) := by
  funext j
  have h0 := (j 0).isLt; have h1 := (j 1).isLt; have h2 := (j 2).isLt
  refine (shapeCast_apply _ h j (ix2 (n0 := 64) (n1 := 8192) ⟨(j 0).val, h0⟩ ⟨(j 1).val * 128 + (j 2).val, ?_⟩) ?_).trans rfl
  · change (j 1).val < 64 at h1; change (j 2).val < 128 at h2; omega
  · rw [Shape.rowMajor_val_three, Shape.rowMajor_val_two]
    show (j 0).val * 8192 + ((j 1).val * 128 + (j 2).val) = ((j 0).val * 64 + (j 1).val) * 128 + (j 2).val
    ring

/-- The reshape to `[64, 8192]`. -/
theorem flat_up (B : ℕ → ℕ → ℕ → ℝ) (h : S64x64x128.ShapeCasts S64x8192) :
    shapeCast S64x8192 (up3 B : FVec Ideal S64x64x128 .f32) h = up2 (rflat B) := by
  funext j
  have h0 := (j 0).isLt; have h1 : (j 1).val < 8192 := (j 1).isLt
  refine (shapeCast_apply _ h j (ix3 (n0 := 64) (n1 := 64) (n2 := 128) ⟨(j 0).val, h0⟩ ⟨(j 1).val / 128, ?_⟩ ⟨(j 1).val % 128, ?_⟩) ?_).trans rfl
  · omega
  · omega
  · rw [Shape.rowMajor_val_three, Shape.rowMajor_val_two]
    show ((j 0).val * 64 + (j 1).val / 128) * 128 + (j 1).val % 128 = (j 0).val * 8192 + (j 1).val
    omega

/-- The reshape of a block to `[64, 8192]`. -/
theorem cols_up (X : ℕ → ℕ → ℝ) (h : S4096x128.ShapeCasts S64x8192) :
    shapeCast S64x8192 (up2 X : FVec Ideal S4096x128 .f32) h = up2 (rcols X) := by
  funext j
  have h0 : (j 0).val < 64 := (j 0).isLt; have h1 : (j 1).val < 8192 := (j 1).isLt
  refine (shapeCast_apply _ h j (ix2 (n0 := 4096) (n1 := 128) ⟨(j 0).val * 64 + (j 1).val / 128, ?_⟩ ⟨(j 1).val % 128, ?_⟩) ?_).trans rfl
  · omega
  · omega
  · rw [Shape.rowMajor_val_two, Shape.rowMajor_val_two]
    show ((j 0).val * 64 + (j 1).val / 128) * 128 + (j 1).val % 128 = (j 0).val * 8192 + (j 1).val
    omega

/-- The reshape back to a block. -/
theorem rows_up (B : ℕ → ℕ → ℝ) (h : S64x8192.ShapeCasts S4096x128) :
    shapeCast S4096x128 (up2 B : FVec Ideal S64x8192 .f32) h = up2 (rrows B) := by
  funext j
  have h0 : (j 0).val < 4096 := (j 0).isLt; have h1 : (j 1).val < 128 := (j 1).isLt
  refine (shapeCast_apply _ h j (ix2 (n0 := 64) (n1 := 8192) ⟨(j 0).val / 64, ?_⟩ ⟨(j 0).val % 64 * 128 + (j 1).val, ?_⟩) ?_).trans rfl
  · omega
  · omega
  · rw [Shape.rowMajor_val_two, Shape.rowMajor_val_two]
    show ((j 0).val / 64) * 8192 + ((j 0).val % 64 * 128 + (j 1).val) = (j 0).val * 128 + (j 1).val
    omega

/-- A block without its unit axis. -/
theorem drop_up (X : ℕ → ℕ → ℕ → ℝ) (h : S1x4096x128.ShapeCasts S4096x128) :
    shapeCast S4096x128 (up3 X : FVec Ideal S1x4096x128 .f32) h = up2 (X 0) := by
  funext j
  rw [eq_ix2 j]
  exact (shapeCast_1ab_ab_apply (a := 4096) (b := 128) _ h _ _).trans rfl

/-- A block given its unit axis back. -/
theorem addUnit_up (X : ℕ → ℕ → ℝ) (h : S4096x128.ShapeCasts S1x4096x128) :
    shapeCast S1x4096x128 (up2 X : FVec Ideal S4096x128 .f32) h = up3 (fun _ => X) := by
  funext j
  rw [eq_ix3 j]
  exact (shapeCast_ab_1ab_apply (a := 4096) (b := 128) _ h _ _ _).trans rfl

/-- The transpose of the first two axes. -/
theorem swap_up (B : ℕ → ℕ → ℕ → ℝ) (h : S64x64x128.Transposes [1, 0, 2] S64x64x128) :
    transpose S64x64x128 [1, 0, 2] (up3 B : FVec Ideal S64x64x128 .f32) h = up3 (rswap B) := by
  funext j
  exact (transpose_apply _ (up3 B : FVec Ideal S64x64x128 .f32) h j (ix3 (n0 := 64) (n1 := 64) (n2 := 128) (j 1) (j 0) (j 2))
    fun c => match c with | ⟨0, _⟩ => rfl | ⟨1, _⟩ => rfl | ⟨2, _⟩ => rfl).trans rfl

/-- A table for every lane. -/
theorem bc_up (T : ℕ → ℕ → ℝ) (h : S64x64.ShapeCasts S64x64x1) (h' : S64x64x1.Broadcasts S64x64x128) :
    broadcastTo S64x64x128 (shapeCast S64x64x1 (up2 T : FVec Ideal S64x64 .f32) h) h' = (up3 (rbc T) : FVec Ideal S64x64x128 .f32) := by
  funext j
  have h0 : (j 0).val < 64 := (j 0).isLt; have h1 : (j 1).val < 64 := (j 1).isLt
  rw [broadcastTo]
  refine (shapeCast_apply _ h _ (ix2 (n0 := 64) (n1 := 64) ⟨(j 0).val, h0⟩ ⟨(j 1).val, h1⟩) ?_).trans rfl
  rw [Shape.rowMajor_val_three, Shape.rowMajor_val_two]
  show (j 0).val * 64 + (j 1).val = ((j 0).val * 64 + (j 1).val) * 1 + 0
  ring

end

end Cert.Up

end
-- ==== Proof.Finite.lean ====
/- The precondition read back: every entry of every argument is a real number, so that each argument array is a real
   function's. -/
module

public import proofs.«01_k».proof.Proof.Frames
public import proofs.«01_k».proof.Proof.Up
public import Idealize.ShloMosaic.Lib.ReduceAll

@[expose] public section

noncomputable section

namespace Cert.Finite

open Idealize.ShloMosaic Idealize.ShloMosaic.TcCoe Cert.Up

instance : Cert.Pre_finite.Facts := Cert.Proof.Frames.preFacts

/-- The predicate's test of one array: the absolute value of every entry is below infinity. -/
abbrev test {s : Shape} {axes : List (Fin s.rank)} (x : FVec Ideal s .f32) (b : Shape.BroadcastsInDim ⟨0, ![]⟩ s (![] : Fin 0 → Fin s.rank))
    (h : s.ReducesTo axes ⟨0, ![]⟩) (hu : 0 < (⟨0, ![]⟩ : Shape).numel) : IVec ⟨0, ![]⟩ 1 :=
  Host.reduce IntOp.andi (cmpf .olt (Host.absf x) (broadcastInDim s ![] b (constant ⟨0, ![]⟩ .f32 0x7F800000#32))) (constantI ⟨0, ![]⟩ 1 1#1) h hu

/-- An extended real whose absolute value is below infinity is a real number. -/
theorem real_of_abs_lt (x : EReal) (h : max x (-x) < ⊤) : x = ((x.toReal : ℝ) : EReal) := by
  refine (EReal.coe_toReal ?_ ?_).symm
  · rintro rfl
    simp at h
  · rintro rfl
    simp at h

/-- If an array passes the test, each of its entries is a real number. -/
theorem real_of_test {s : Shape} {axes : List (Fin s.rank)} (x : FVec Ideal s .f32) (b : Shape.BroadcastsInDim ⟨0, ![]⟩ s (![] : Fin 0 → Fin s.rank))
    (h : s.ReducesTo axes ⟨0, ![]⟩) (hu : 0 < (⟨0, ![]⟩ : Shape).numel) (j : (⟨0, ![]⟩ : Shape).Idx) (e : test x b h hu j = 1#1) (i : s.Idx) :
    x i = (((x i : EReal).toReal : ℝ) : EReal) := by
  haveI : Subsingleton (⟨0, ![]⟩ : Shape).Idx := ⟨fun a b => funext fun k => k.elim0⟩
  have h1 := Host.reduce_andi_all _ _ h hu j e i
  have ht : Ideal.ofBits FTy.f32 0x7F800000#32 = ⊤ := by simp [Ideal.ofBits, Ideal.ieee]
  have h2 : BitVec.ofBool (decide (max (x i : EReal) (-(x i)) < Ideal.ofBits FTy.f32 0x7F800000#32)) = 1#1 := h1
  rw [ht] at h2
  by_cases h3 : max (x i : EReal) (-(x i)) < ⊤
  · exact real_of_abs_lt _ h3
  · rw [decide_eq_false h3] at h2
    exact absurd h2 (by decide)

/-! ### Arrays of one, two and three axes -/

/-- The real function that an array of one axis holds, zero outside it. -/
def f1 {n0 : ℕ} (x : FVec Ideal ⟨1, ![n0]⟩ .f32) : ℕ → ℝ := fun a =>
  if h : a < n0 then (x (ValueIdx.ix1 (n := n0) ⟨a, h⟩) : EReal).toReal else 0
/-- The same for two axes. -/
def f2 {n0 n1 : ℕ} (x : FVec Ideal ⟨2, ![n0, n1]⟩ .f32) : ℕ → ℕ → ℝ := fun a b =>
  if h : a < n0 ∧ b < n1 then (x (ValueIdx.ix2 ⟨a, h.1⟩ ⟨b, h.2⟩) : EReal).toReal else 0
/-- The same for three axes. -/
def f3 {n0 n1 n2 : ℕ} (x : FVec Ideal ⟨3, ![n0, n1, n2]⟩ .f32) : ℕ → ℕ → ℕ → ℝ := fun a b c =>
  if h : a < n0 ∧ b < n1 ∧ c < n2 then (x (ValueIdx.ix3 ⟨a, h.1⟩ ⟨b, h.2.1⟩ ⟨c, h.2.2⟩) : EReal).toReal else 0

/-- An array of real numbers is its function's array. -/
theorem up1_f1 {n0 : ℕ} (x : FVec Ideal ⟨1, ![n0]⟩ .f32) (hx : ∀ i, x i = (((x i : EReal).toReal : ℝ) : EReal)) : x = up1 (f1 x) := by
  funext i
  have h : (i 0).val < n0 := (i 0).isLt
  show _ = ((f1 x (i 0).val : ℝ) : EReal)
  unfold f1
  rw [dif_pos h]
  have e : ValueIdx.ix1 (n := n0) ⟨(i 0).val, h⟩ = i := (ValueIdx.eq_ix1 i).symm
  rw [e]
  exact hx i

/-- The same for two axes. -/
theorem up2_f2 {n0 n1 : ℕ} (x : FVec Ideal ⟨2, ![n0, n1]⟩ .f32) (hx : ∀ i, x i = (((x i : EReal).toReal : ℝ) : EReal)) : x = up2 (f2 x) := by
  funext i
  have h : (i 0).val < n0 ∧ (i 1).val < n1 := ⟨(i 0).isLt, (i 1).isLt⟩
  show _ = ((f2 x (i 0).val (i 1).val : ℝ) : EReal)
  unfold f2
  rw [dif_pos h]
  have e : ValueIdx.ix2 (n0 := n0) (n1 := n1) ⟨(i 0).val, h.1⟩ ⟨(i 1).val, h.2⟩ = i := (ValueIdx.eq_ix2 i).symm
  rw [e]
  exact hx i

/-- The same for three axes. -/
theorem up3_f3 {n0 n1 n2 : ℕ} (x : FVec Ideal ⟨3, ![n0, n1, n2]⟩ .f32) (hx : ∀ i, x i = (((x i : EReal).toReal : ℝ) : EReal)) : x = up3 (f3 x) := by
  funext i
  have h : (i 0).val < n0 ∧ (i 1).val < n1 ∧ (i 2).val < n2 := ⟨(i 0).isLt, (i 1).isLt, (i 2).isLt⟩
  show _ = ((f3 x (i 0).val (i 1).val (i 2).val : ℝ) : EReal)
  unfold f3
  rw [dif_pos h]
  have e : ValueIdx.ix3 (n0 := n0) (n1 := n1) (n2 := n2) ⟨(i 0).val, h.1⟩ ⟨(i 1).val, h.2.1⟩ ⟨(i 2).val, h.2.2⟩ = i := (ValueIdx.eq_ix3 i).symm
  rw [e]
  exact hx i

open Cert.Pre_finite in
/-- Arguments that pass the predicate are arrays of real numbers. -/
theorem decode (x0 x1 x2 : FVec Ideal S2x4096x1024 .f32) (w0 : FVec Ideal S1024x1024 .f32) (b0 : FVec Ideal S1024 .f32)
    (w1 : FVec Ideal S1024x1024 .f32) (b1 : FVec Ideal S1024 .f32) (w2 : FVec Ideal S1024x1024 .f32) (b2 : FVec Ideal S1024 .f32)
    (h : Cert.Pre_finite.fn (F := Ideal) x0 x1 x2 w0 b0 w1 b1 w2 b2 = fun _ => 1#1) :
    x0 = up3 (f3 x0) ∧ x1 = up3 (f3 x1) ∧ x2 = up3 (f3 x2) ∧ w0 = up2 (f2 w0) ∧ b0 = up1 (f1 b0)
      ∧ w1 = up2 (f2 w1) ∧ b1 = up1 (f1 b1) ∧ w2 = up2 (f2 w2) ∧ b2 = up1 (f1 b2) := by
  have h := congrFun h ValueIdx.ix0
  unfold Cert.Pre_finite.fn Cert.Pre_finite.fn_part1 Cert.Pre_finite.fn_part2 at h
  dsimp only at h
  obtain ⟨h, e8⟩ := IntOp.andi_eq_one.1 h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  exact ⟨up3_f3 _ (real_of_test _ _ _ _ _ e0), up3_f3 _ (real_of_test _ _ _ _ _ e1), up3_f3 _ (real_of_test _ _ _ _ _ e2),
    up2_f2 _ (real_of_test _ _ _ _ _ e3), up1_f1 _ (real_of_test _ _ _ _ _ e4), up2_f2 _ (real_of_test _ _ _ _ _ e5),
    up1_f1 _ (real_of_test _ _ _ _ _ e6), up2_f2 _ (real_of_test _ _ _ _ _ e7), up1_f1 _ (real_of_test _ _ _ _ _ e8)⟩

end Cert.Finite

end
-- ==== Proof.Select.lean ====
/- Sixteen rounds of "take the largest element, at its least position, and strike it out", on a column of 4096 real numbers. -/
module

public import proofs.«01_k».proof.Proof.Up

@[expose] public section

noncomputable section

namespace Cert.Select

open Finset

/-- The largest element of a column. -/
def mx (e : ℕ → EReal) : EReal := (univ : Finset (Fin 4096)).sup fun k => e k.val
/-- The least position holding `m` (4096 if none does). -/
def first (e : ℕ → EReal) (m : EReal) : ℕ :=
  (univ : Finset (Fin 4096)).fold min 2147483647 fun k => if e k.val = m then k.val else 4096
/-- The column with the element at `i` struck out. -/
def strike (e : ℕ → EReal) (i : ℕ) : ℕ → EReal := fun n => if n = i then ⊥ else e n

/-- The column after `t` rounds, and what round `t` takes from it. -/
def E (e : ℕ → EReal) : ℕ → ℕ → EReal
  | 0 => e
  | t + 1 => strike (E e t) (first (E e t) (mx (E e t)))
/-- The maximum of round `t`. -/
def M (e : ℕ → EReal) (t : ℕ) : EReal := mx (E e t)
/-- The position of round `t`. -/
def I (e : ℕ → EReal) (t : ℕ) : ℕ := first (E e t) (M e t)

/-- One round strikes out one element. -/
theorem E_succ (e : ℕ → EReal) (t n : ℕ) : E e (t + 1) n = if n = I e t then ⊥ else E e t n := rfl

/-- A position fits a word. -/
theorem first_lt (e : ℕ → EReal) (m : EReal) : first e m < 2 ^ 32 := by
  have : first e m ≤ 2147483647 := (Finset.fold_min_le _).2 (Or.inl le_rfl)
  omega

/-- The maximum is attained, and `first` is its least position. -/
theorem first_spec (e : ℕ → EReal) : first e (mx e) < 4096 ∧ e (first e (mx e)) = mx e
    ∧ (∀ n, n < 4096 → e n ≤ mx e) ∧ ∀ n, n < 4096 → e n = mx e → first e (mx e) ≤ n := by
  have hle : ∀ n, n < 4096 → e n ≤ mx e := fun n hn =>
    Finset.le_sup (f := fun k : Fin 4096 => e k.val) (mem_univ (⟨n, hn⟩ : Fin 4096))
  obtain ⟨k, -, hk⟩ := Finset.exists_mem_eq_sup (univ : Finset (Fin 4096)) ⟨0, mem_univ _⟩ fun k => e k.val
  have hmin : ∀ n, n < 4096 → e n = mx e → first e (mx e) ≤ n := fun n hn h =>
    (Finset.fold_min_le _).2 (Or.inr ⟨⟨n, hn⟩, mem_univ _, by simp only [if_pos h]; exact le_rfl⟩)
  have hlt : first e (mx e) < 4096 := lt_of_le_of_lt (hmin k.val k.isLt hk.symm) k.isLt
  refine ⟨hlt, ?_, hle, hmin⟩
  rcases (Finset.fold_min_le (f := fun k : Fin 4096 => if e k.val = mx e then k.val else 4096) (b := 2147483647) (s := univ)
    (first e (mx e))).1 le_rfl with h | ⟨j, -, h⟩
  · omega
  · by_cases hj : e j.val = mx e
    · simp only [if_pos hj] at h
      rw [le_antisymm (hmin j.val j.isLt hj) h, hj]
    · simp only [if_neg hj] at h
      omega

section
variable (r : ℕ → ℝ)

/-- The positions taken in the first `t` rounds. -/
def taken (t : ℕ) : Finset ℕ := (range t).image (I fun n => (r n : EReal))

/-- What round `t` sees of a real column: minus infinity at the positions taken. -/
theorem E_eq (t n : ℕ) : E (fun n => (r n : EReal)) t n = if n ∈ taken r t then ⊥ else (r n : EReal) := by
  induction t with
  | zero => simp [taken, E]
  | succ t ih =>
    rw [E_succ, ih]
    have : taken r (t + 1) = insert (I (fun n => (r n : EReal)) t) (taken r t) := by
      simp [taken, range_add_one, image_insert]
    simp only [this, mem_insert]
    by_cases h : n = I (fun n => (r n : EReal)) t <;> simp [h]

/-- What round `t` takes: an untaken position, the value there, and its precedence over the other untaken ones. -/
theorem round (t : ℕ) (ht : t < 4096) :
    I (fun n => (r n : EReal)) t < 4096 ∧ I (fun n => (r n : EReal)) t ∉ taken r t
    ∧ M (fun n => (r n : EReal)) t = (r (I (fun n => (r n : EReal)) t) : EReal)
    ∧ ∀ n, n < 4096 → n ∉ taken r t → r n < r (I (fun n => (r n : EReal)) t) ∨ r n = r (I (fun n => (r n : EReal)) t) ∧ I (fun n => (r n : EReal)) t ≤ n := by
  obtain ⟨h1, h2, h3, h4⟩ := first_spec (E (fun n => (r n : EReal)) t)
  change I (fun n => (r n : EReal)) t < 4096 at h1
  change E _ t (I (fun n => (r n : EReal)) t) = M _ t at h2
  have hcard : (taken r t).card < 4096 := lt_of_le_of_lt (card_image_le.trans (by simp)) ht
  obtain ⟨n0, hn0, hn0'⟩ : ∃ n, n ∈ range 4096 ∧ n ∉ taken r t := by
    by_contra hc
    push Not at hc
    have := card_le_card (show range 4096 ⊆ taken r t from hc)
    rw [card_range] at this
    omega
  have hI : I (fun n => (r n : EReal)) t ∉ taken r t := by
    intro hmem
    rw [E_eq, if_pos hmem] at h2
    have := h3 n0 (mem_range.1 hn0)
    rw [E_eq, if_neg hn0'] at this
    change _ ≤ M _ t at this
    rw [← h2] at this
    exact absurd (le_bot_iff.1 this) (EReal.coe_ne_bot _)
  have hM : M (fun n => (r n : EReal)) t = (r (I (fun n => (r n : EReal)) t) : EReal) := by
    rw [← h2, E_eq, if_neg hI]
  refine ⟨h1, hI, hM, fun n hn hn' => ?_⟩
  have hle := h3 n hn
  have hmin := h4 n hn
  rw [E_eq, if_neg hn'] at hle hmin
  change _ ≤ M _ t at hle
  change _ = M _ t → I _ t ≤ n at hmin
  rw [hM] at hle hmin
  rcases lt_or_eq_of_le (EReal.coe_le_coe_iff.1 hle) with h | h
  · exact Or.inl h
  · exact Or.inr ⟨h, hmin (by rw [h])⟩

end

end Cert.Select

end
-- ==== Proof.Rounds.lean ====
/- One round of the fused kernel's selection on a block of 128 columns: the largest element of each column, the least row
   that holds it, and the block with those elements struck out. -/
module

public import proofs.«01_k».proof.Proof.Select
public import Idealize.ShloMosaic.Lib.SortNet.Extract
public import Idealize.ShloMosaic.Lib.Pipeline.Value
public import Idealize.ShloMosaic.PureOps.Reduce
public import Idealize.ShloMosaic.PureOps.Ideal.Laws

@[expose] public section

noncomputable section

namespace Cert.Rounds

open Idealize.ShloMosaic Idealize.ShloMosaic.ValueIdx Cert.KernelIdeal Cert.KernelIdeal.Gen Cert.Up Finset

section
variable (e : ℕ → ℕ → EReal) (t : ℕ)

/-- After `t` rounds on the columns `e w`: the block, the maxima, their rows. -/
def arrE : FVec Ideal S4096x128 .f32 := fun i => Select.E (e (i 1).val) t (i 0).val
/-- The maxima of round `t`. -/
def arrM : FVec Ideal S128 .f32 := fun j => Select.M (e (j 0).val) t
/-- The positions of round `t`. -/
def arrI : IVec S128 32 := fun j => BitVec.ofNat 32 (Select.I (e (j 0).val) t)

/-- A vector of 128 as every row of a block. -/
theorem row_bc {α : Type} (x : S128.Idx → α) (h : S128.ShapeCasts S1x128) (h' : S1x128.Broadcasts S4096x128) (i : S4096x128.Idx) :
    broadcastTo S4096x128 (shapeCast S1x128 x h) h' i = x (ix1 (n := 128) ⟨(i 1).val, (i 1).isLt⟩) := by
  rw [broadcastTo]
  refine shapeCast_apply x h _ _ ?_
  rw [Shape.rowMajor_val_one, Shape.rowMajor_val_two]
  show (i 1).val = 0 * 128 + (i 1).val
  omega

/-- The rows of a block over a column. -/
theorem lift_eq (h : S4096x128.Reduces [0] S128) (j : S128.Idx) (k : Fin 4096) :
    h.lift j k = ix2 (n0 := 4096) (n1 := 128) k ⟨(j 0).val, (j 0).isLt⟩ := by
  funext c
  apply Fin.ext
  match c with
  | 0 => rfl
  | 1 => rfl

/-- The word of minus infinity. -/
theorem neg_inf : Ideal.ofBits .f32 0xFF800000#32 = ⊥ := by simp [Ideal.ofBits, Ideal.ieee]

/-- The maximum down the columns is round `t`'s. -/
theorem max_round (h : S4096x128.Reduces [0] S128) (hφ : FKind.Formats .f32) (hacc : 0xFF800000#32 = FKind.maximumf.neutral .f32 hφ) :
    multiReduction .maximumf [0] S128 (arrE e t) 0xFF800000#32 h hφ hacc = arrM e t := by
  funext j
  rw [Ideal.multiReduction_maximumf_single, show (FloatOps.ofBits .f32 0xFF800000#32 : Ideal .f32) = (⊥ : EReal) from neg_inf]
  show (univ : Finset (Fin 4096)).fold max ⊥ (arrE e t ∘ h.lift j) = (univ : Finset (Fin 4096)).sup fun k => Select.E (e (j 0).val) t k.val
  rw [Finset.sup]
  congr 1

/-- The lesser of two small words. -/
theorem minsi_ofNat (a b : ℕ) (ha : a ≤ 2147483647) (hb : b ≤ 2147483647) :
    IntOp.minsi (BitVec.ofNat 32 a) (BitVec.ofNat 32 b) = BitVec.ofNat 32 (min a b) := by
  have hi : ∀ c : ℕ, c ≤ 2147483647 → (BitVec.ofNat 32 c).toInt = c := fun c hc => by
    have h : (BitVec.ofNat 32 c).toNat = c := by rw [BitVec.toNat_ofNat]; omega
    rw [BitVec.toInt_eq_toNat_of_lt (by rw [h]; omega), h]
  apply BitVec.eq_of_toInt_eq
  rw [SortNet.toInt_minsi, hi a ha, hi b hb, hi _ (by omega)]
  omega

/-- The least of small words. -/
theorem fold_minsi {ι : Type} (s : Finset ι) (f : ι → ℕ) (hf : ∀ i, f i ≤ 2147483647) :
    s.fold IntOp.minsi (BitVec.ofNat 32 2147483647) (fun i => BitVec.ofNat 32 (f i)) = BitVec.ofNat 32 (s.fold min 2147483647 f) := by
  classical
  induction s using Finset.induction_on with
  | empty => rfl
  | insert a s ha ih =>
    rw [fold_insert ha, fold_insert ha, ih, minsi_ofNat _ _ (hf a) ((Finset.fold_min_le _).2 (Or.inl le_rfl))]

/-- Row numbers where the block holds its maxima, 4096 elsewhere: their least in each column. -/
theorem idx_round (h1 : S128.ShapeCasts S1x128) (h2 : S1x128.Broadcasts S4096x128) (hi : S4096x128.Iotas .tc 32 [0])
    (h : S4096x128.Reduces [0] S128) (hacc : 2147483647#32 = IKind.minsi.neutral) :
    multiReductionI .minsi [0] S128 (select (cmpf .oeq (arrE e t) (broadcastTo S4096x128 (shapeCast S1x128 (arrM e t) h1) h2))
      (iota .tc S4096x128 32 [0] hi) (broadcast S4096x128 4096#32)) 2147483647#32 h hacc = arrI e t := by
  funext j
  rw [multiReductionI_eq_fold, h.fold_filter_drop_single]
  have hf : ∀ k : Fin 4096, (select (cmpf .oeq (arrE e t) (broadcastTo S4096x128 (shapeCast S1x128 (arrM e t) h1) h2))
      (iota .tc S4096x128 32 [0] hi) (broadcast S4096x128 4096#32)) (h.lift j k)
      = BitVec.ofNat 32 (if Select.E (e (j 0).val) t k.val = Select.M (e (j 0).val) t then k.val else 4096) := by
    intro k
    rw [lift_eq]
    show (if BitVec.ofBool (decide (arrE e t _ = broadcastTo S4096x128 (shapeCast S1x128 (arrM e t) h1) h2 _)) = 1 then BitVec.ofNat 32 (0 * 4096 + k.val) else BitVec.ofNat 32 4096) = _
    rw [row_bc, Nat.zero_mul, Nat.zero_add]
    show (if BitVec.ofBool (decide (Select.E (e (j 0).val) t k.val = Select.M (e (j 0).val) t)) = 1 then _ else _) = _
    by_cases hk : Select.E (e (j 0).val) t k.val = Select.M (e (j 0).val) t
    · rw [if_pos hk, decide_eq_true hk]; rfl
    · rw [if_neg hk, decide_eq_false hk]; rfl
  refine (Finset.fold_congr (fun k _ => hf k)).trans ?_
  refine (fold_minsi univ _ fun k => ?_).trans rfl
  have := k.isLt
  split <;> omega

/-- Two words below `2^32` are equal exactly when their numbers are. -/
theorem word_eq (n m : ℕ) (hn : n < 2 ^ 32) (hm : m < 2 ^ 32) :
    (BitVec.ofBool (BitVec.ofNat 32 (0 * 4096 + n) == BitVec.ofNat 32 m) = 1) = (n = m) := by
  have : (BitVec.ofNat 32 n = BitVec.ofNat 32 m) ↔ n = m := by
    rw [← BitVec.toNat_inj, BitVec.toNat_ofNat, BitVec.toNat_ofNat, Nat.mod_eq_of_lt hn, Nat.mod_eq_of_lt hm]
  rw [Nat.zero_mul, Nat.zero_add]
  by_cases h : n = m
  · subst h; simp
  · have h' := mt this.1 h
    rw [beq_eq_false_iff_ne.2 h']; simp [h]

/-- The mask of the rows that a column's word names. -/
theorem mask_at (h1 : S128.ShapeCasts S1x128) (h2 : S1x128.Broadcasts S4096x128) (hi : S4096x128.Iotas .tc 32 [0]) (i : S4096x128.Idx) :
    (cmpi .eq (iota .tc S4096x128 32 [0] hi) (broadcastTo S4096x128 (shapeCast S1x128 (arrI e t) h1) h2) i = 1) = ((i 0).val = Select.I (e (i 1).val) t) := by
  have h0 : (i 0).val < 4096 := (i 0).isLt
  show (BitVec.ofBool (BitVec.ofNat 32 (0 * 4096 + (i 0).val) == broadcastTo S4096x128 (shapeCast S1x128 (arrI e t) h1) h2 i) = 1) = _
  rw [row_bc]
  exact word_eq _ _ (by omega) (Select.first_lt _ _)

/-- Striking out round `t`'s positions leaves the block of round `t + 1`. -/
theorem strike_round (h1 : S128.ShapeCasts S1x128) (h2 : S1x128.Broadcasts S4096x128) (hi : S4096x128.Iotas .tc 32 [0]) :
    select (cmpi .eq (iota .tc S4096x128 32 [0] hi) (broadcastTo S4096x128 (shapeCast S1x128 (arrI e t) h1) h2))
      (broadcast S4096x128 (FloatOps.ofBits (F := Ideal) .f32 0xFF800000#32)) (arrE e t) = arrE e (t + 1) := by
  funext i
  show (if cmpi .eq (iota .tc S4096x128 32 [0] hi) (broadcastTo S4096x128 (shapeCast S1x128 (arrI e t) h1) h2) i = 1
    then Ideal.ofBits .f32 0xFF800000#32 else Select.E (e (i 1).val) t (i 0).val) = if (i 0).val = Select.I (e (i 1).val) t then ⊥ else Select.E (e (i 1).val) t (i 0).val
  by_cases hh : (i 0).val = Select.I (e (i 1).val) t
  · rw [if_pos hh, if_pos ((mask_at e t h1 h2 hi i).mpr hh), neg_inf]
  · rw [if_neg hh, if_neg (mt (mask_at e t h1 h2 hi i).mp hh)]

/-- A row of reals at the rows a round has taken, zero elsewhere. -/
theorem pick_up (X : ℕ → ℕ → ℝ) (h1 : S128.ShapeCasts S1x128) (h2 : S1x128.Broadcasts S4096x128) (hi : S4096x128.Iotas .tc 32 [0]) :
    select (cmpi .eq (iota .tc S4096x128 32 [0] hi) (broadcastTo S4096x128 (shapeCast S1x128 (arrI e t) h1) h2))
      (up2 X : FVec Ideal S4096x128 .f32) (broadcast S4096x128 (FloatOps.ofBits (F := Ideal) .f32 0x00000000#32))
      = up2 (fun n w => if n = Select.I (e w) t then X n w else 0) := by
  funext i
  show (if cmpi .eq (iota .tc S4096x128 32 [0] hi) (broadcastTo S4096x128 (shapeCast S1x128 (arrI e t) h1) h2) i = 1
    then (X (i 0).val (i 1).val : EReal) else Ideal.ofBits .f32 0x00000000#32) = ((if (i 0).val = Select.I (e (i 1).val) t then X (i 0).val (i 1).val else 0 : ℝ) : EReal)
  have h0 : Ideal.ofBits .f32 0x00000000#32 = ((0 : ℝ) : EReal) := by simp [Ideal.ofBits, Ideal.ieee]
  by_cases hh : (i 0).val = Select.I (e (i 1).val) t
  · rw [if_pos hh, if_pos ((mask_at e t h1 h2 hi i).mpr hh)]
  · rw [if_neg hh, if_neg (mt (mask_at e t h1 h2 hi i).mp hh), h0]

/-- The maxima of a real block are real. -/
theorem arrM_up (r : ℕ → ℕ → ℝ) (ht : t < 4096) :
    arrM (fun w n => (r n w : EReal)) t = up1 (fun w => r (Select.I (fun n => (r n w : EReal)) t) w) := by
  funext j
  exact (Select.round (fun n => r n (j 0).val) t ht).2.2.1

/-- The block that the rounds start from. -/
theorem arrE_zero (r : ℕ → ℕ → ℝ) : (up2 r : FVec Ideal S4096x128 .f32) = arrE (fun w n => (r n w : EReal)) 0 := rfl

end

/-! ### Rows of 128 -/

/-- One row of the weights. -/
theorem slice_up (W : ℕ → ℕ → ℝ) (j : ℕ) (h : S16x128.Slices ![j, 0] S1x128) :
    extractStridedSlice S1x128 ![j, 0] (up2 W : FVec Ideal S16x128 .f32) h = up2 (fun a w => W (j + a) (0 + w)) := rfl

/-- A row as a vector. -/
theorem flat1_up (X : ℕ → ℕ → ℝ) (h : S1x128.ShapeCasts S128) :
    shapeCast S128 (up2 X : FVec Ideal S1x128 .f32) h = up1 (X 0) := by
  funext j
  refine (shapeCast_apply _ h _ (ix2 (n0 := 1) (n1 := 128) 0 ⟨(j 0).val, (j 0).isLt⟩) ?_).trans rfl
  rw [Shape.rowMajor_val_one, Shape.rowMajor_val_two]
  show 0 * 128 + (j 0).val = (j 0).val
  omega

/-- A vector as a row. -/
theorem row1_up (x : ℕ → ℝ) (h : S128.ShapeCasts S1x128) :
    shapeCast S1x128 (up1 x : FVec Ideal S128 .f32) h = up2 (fun _ => x) := by
  funext j
  have h0 : (j 0).val = 0 := by have : (j 0).val < 1 := (j 0).isLt; omega
  refine (shapeCast_apply _ h _ (ix1 (n := 128) ⟨(j 1).val, (j 1).isLt⟩) ?_).trans rfl
  rw [Shape.rowMajor_val_one, Shape.rowMajor_val_two]
  show (j 1).val = (j 0).val * 128 + (j 1).val
  omega

/-- A row as itself. -/
theorem id1_up (X : ℕ → ℕ → ℝ) (h : S1x128.ShapeCasts S1x128) :
    shapeCast S1x128 (up2 X : FVec Ideal S1x128 .f32) h = up2 X := by
  funext i; rw [shapeCast, Shape.reshapeEquiv_self]

/-- A row as every row of a block. -/
theorem rows_up (X : ℕ → ℕ → ℝ) (h : S1x128.Broadcasts S4096x128) :
    broadcastTo S4096x128 (up2 X : FVec Ideal S1x128 .f32) h = up2 (fun _ => X 0) := rfl

/-- A row as every row of sixteen. -/
theorem rows16_up (X : ℕ → ℕ → ℝ) (h : S1x128.Broadcasts S16x128) :
    broadcastTo S16x128 (up2 X : FVec Ideal S1x128 .f32) h = up2 (fun _ => X 0) := rfl

/-- The block of zeros. -/
theorem zero_up : (broadcast S4096x128 (FloatOps.ofBits (F := Ideal) .f32 0x00000000#32) : FVec Ideal S4096x128 .f32) = up2 rz := by
  funext i
  show Ideal.ofBits .f32 0x00000000#32 = ((0 : ℝ) : EReal)
  simp [Ideal.ofBits, Ideal.ieee]

/-- The exponential on reals. -/
theorem exp_up (X : ℕ → ℕ → ℝ) : exp (up2 X : FVec Ideal S16x128 .f32) = up2 (fun i j => Real.exp (X i j)) := rfl

/-- The sum of sixteen rows. -/
theorem sum16_up (X : ℕ → ℕ → ℝ) (h : S16x128.Reduces [0] S128) (hφ : FKind.Formats .f32) (hacc : 0x00000000#32 = FKind.add.neutral .f32 hφ) :
    multiReduction .add [0] S128 (up2 X : FVec Ideal S16x128 .f32) 0x00000000#32 h hφ hacc = up1 (fun w => ∑ k ∈ range 16, X k w) := by
  funext j
  rw [Ideal.multiReduction_add_single]
  show ∑ k : Fin 16, ((X k.val (j 0).val : ℝ) : EReal) = ((∑ k ∈ range 16, X k (j 0).val : ℝ) : EReal)
  rw [← coe_sum, Fin.sum_univ_eq_sum_range (fun k => X k (j 0).val)]

/-- The quotient on reals by a divisor that is not zero. -/
theorem div16_up (X Y : ℕ → ℕ → ℝ) (hY : ∀ i j, Y i j ≠ 0) :
    divf (up2 X : FVec Ideal S16x128 .f32) (up2 Y) = up2 (fun i j => X i j / Y i j) := by
  funext i
  refine (Ideal.div_coe (hY _ _) _).trans ?_
  show (X (i 0).val (i 1).val : EReal) * _ = ((X (i 0).val (i 1).val / Y (i 0).val (i 1).val : ℝ) : EReal)
  rw [← EReal.coe_mul, ← div_eq_mul_one_div]

/-- Sixteen rows, stacked. -/
theorem stack_up (V : ℕ → ℕ → ℝ) (f : ℕ → FVec Ideal S1x128 .f32) (hf : ∀ n, n < 16 → f n = up2 (fun _ => V n)) (h : Shape.Concatenates [S1x128, S1x128, S1x128, S1x128, S1x128, S1x128, S1x128, S1x128, S1x128, S1x128, S1x128, S1x128, S1x128, S1x128, S1x128, S1x128] S16x128 0) :
    concatenate S16x128 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩, ⟨S1x128, f 8⟩, ⟨S1x128, f 9⟩, ⟨S1x128, f 10⟩, ⟨S1x128, f 11⟩, ⟨S1x128, f 12⟩, ⟨S1x128, f 13⟩, ⟨S1x128, f 14⟩, ⟨S1x128, f 15⟩] h = (up2 V : FVec Ideal S16x128 .f32) := by
  funext j
  refine (concatenate_ofFn_unit_apply 0 (fun n : Fin 16 => f n.val) h rfl rfl j ⟨(j 0).val, (j 0).isLt⟩ rfl
    (ix2 (n0 := 1) (n1 := 128) 0 ⟨(j 1).val, (j 1).isLt⟩) (fun b hb => by
      match b with
      | 0 => exact absurd rfl hb
      | 1 => rfl)).trans ?_
  show f (j 0).val _ = _
  rw [hf _ (j 0).isLt]
  rfl

end Cert.Rounds

end
-- ==== Proof.Fft.lean ====
/- The fused kernel's transforms over finite inputs, as real matrix products: every stated value of the body up to the
   correlation `Rxx`, and from the scattered weights to the result. -/
module

public import proofs.«01_k».proof.Proof.Up
public import Idealize.ShloMosaic.Lib.Pipeline.Value

@[expose] public section

noncomputable section

namespace Cert.Fft

open Idealize.ShloMosaic Idealize.ShloMosaic.ValueIdx Cert.KernelIdeal Cert.KernelIdeal.Gen Cert.Up Finset

section
variable (A B T U q k v s : ℕ → ℕ → ℝ)

/-! ### The passes, over tables `A + iB` (length 64) and `T + iU` (the turns between) -/

/-- The first pass of a real block, with one part of the table. -/
def g1 (M x : ℕ → ℕ → ℝ) : ℕ → ℕ → ℕ → ℝ := runflat (rmm M (rcols x))
/-- The turns between the passes, and the exchange of the axes: the real part. -/
def hRe (gr gi : ℕ → ℕ → ℕ → ℝ) : ℕ → ℕ → ℝ := rflat (rswap (rsub3 (rmul3 gr (rbc T)) (rmul3 gi (rbc U))))
/-- The imaginary part of the same. -/
def hIm (gr gi : ℕ → ℕ → ℕ → ℝ) : ℕ → ℕ → ℝ := rflat (rswap (radd3 (rmul3 gr (rbc U)) (rmul3 gi (rbc T))))
/-- The transform of a real block, its two parts. -/
def oRe (x : ℕ → ℕ → ℝ) : ℕ → ℕ → ℝ :=
  rrows (rsub (rmm A (hRe T U (g1 A x) (g1 B x))) (rmm B (hIm T U (g1 A x) (g1 B x))))
/-- The imaginary part of that transform. -/
def oIm (x : ℕ → ℕ → ℝ) : ℕ → ℕ → ℝ :=
  rrows (radd (rmm A (hIm T U (g1 A x) (g1 B x))) (rmm B (hRe T U (g1 A x) (g1 B x))))
/-- The conjugate product of two transforms. -/
def pRe (x y : ℕ → ℕ → ℝ) : ℕ → ℕ → ℝ := radd (rmul (oRe A B T U x) (oRe A B T U y)) (rmul (oIm A B T U x) (oIm A B T U y))
/-- The imaginary part of that product. -/
def pIm (x y : ℕ → ℕ → ℝ) : ℕ → ℕ → ℝ := rsub (rmul (oRe A B T U x) (oIm A B T U y)) (rmul (oIm A B T U x) (oRe A B T U y))
/-- The first pass of a complex block. -/
def gRe (x y : ℕ → ℕ → ℝ) : ℕ → ℕ → ℕ → ℝ := runflat (rsub (rmm A (rcols x)) (rmm B (rcols y)))
/-- The imaginary part of that pass. -/
def gIm (x y : ℕ → ℕ → ℝ) : ℕ → ℕ → ℕ → ℝ := runflat (radd (rmm A (rcols y)) (rmm B (rcols x)))
/-- The real part of the transform of the conjugate product, in two summands. -/
def cRe (x y : ℕ → ℕ → ℝ) : ℕ → ℕ → ℝ :=
  rmm A (hRe T U (gRe A B (pRe A B T U x y) (pIm A B T U x y)) (gIm A B (pRe A B T U x y) (pIm A B T U x y)))
/-- The second of these summands. -/
def cIm (x y : ℕ → ℕ → ℝ) : ℕ → ℕ → ℝ :=
  rmm B (hIm T U (gRe A B (pRe A B T U x y) (pIm A B T U x y)) (gIm A B (pRe A B T U x y) (pIm A B T U x y)))
/-- Their difference over 4096. -/
def corr (x y : ℕ → ℕ → ℝ) : ℕ → ℕ → ℝ := fun n w => rrows (rsub (cRe A B T U x y) (cIm A B T U x y)) n w * (1 / 4096)

/-- A table is loaded whole. -/
theorem ld0 (x : Vec Ideal S64x64 .f32) : View.ld (Val := Elt Ideal) x r3_0 = x := View.ld_unit_zero (by funext a; fin_cases a <;> rfl) _ _
/-- A data block is loaded whole. -/
theorem ld1 (x : Vec Ideal S1x4096x128 .f32) : View.ld (Val := Elt Ideal) x r3_1 = x := View.ld_unit_zero (by funext a; fin_cases a <;> rfl) _ _

/-- The four tables and the three blocks, as the arrays the body loads. -/
abbrev t (M : ℕ → ℕ → ℝ) : Vec Ideal S64x64 .f32 := up2 (n0 := 64) (n1 := 64) (φ := .f32) M
/-- A data block, as the array the body loads. -/
abbrev b (M : ℕ → ℕ → ℝ) : Vec Ideal S1x4096x128 .f32 := up3 (n0 := 1) (n1 := 4096) (n2 := 128) (φ := .f32) (fun _ => M)

/-- The head of the table `A`. -/
theorem v2 : k3_pay149 (F := Ideal) (t A) (t B) (t T) (t U) (b q) (b k) (b v) = up2 A := by
  simp only [k3_pay149, ld0, k3_pay3, k3_pay2, t, cast_id_up, truncf_up]
/-- The rest of the table `A` is zero. -/
theorem v5 : k3_pay150 (F := Ideal) (t A) (t B) (t T) (t U) (b q) (b k) (b v) = up2 rz := by
  simp only [k3_pay150, ld0, k3_pay4, k3_pay3, k3_pay2, t, cast_id_up, truncf_up, extf_up, subf_up, rsub_self]
/-- The head of the table `B`. -/
theorem v8 : k3_pay151 (F := Ideal) (t A) (t B) (t T) (t U) (b q) (b k) (b v) = up2 B := by
  simp only [k3_pay151, ld0, k3_pay6, k3_pay5, t, cast_id_up, truncf_up]
/-- The rest of the table `B` is zero. -/
theorem v11 : k3_pay152 (F := Ideal) (t A) (t B) (t T) (t U) (b q) (b k) (b v) = up2 rz := by
  simp only [k3_pay152, ld0, k3_pay7, k3_pay6, k3_pay5, t, cast_id_up, truncf_up, extf_up, subf_up, rsub_self]
/-- The table `T`. -/
theorem v13 : k3_pay153 (F := Ideal) (t A) (t B) (t T) (t U) (b q) (b k) (b v) = up2 T := by
  simp only [k3_pay153, ld0, k3_pay8, t, cast_id_up]
/-- The table `U`. -/
theorem v15 : k3_pay154 (F := Ideal) (t A) (t B) (t T) (t U) (b q) (b k) (b v) = up2 U := by
  simp only [k3_pay154, ld0, k3_pay9, t, cast_id_up]

/-! ### The first block -/
/-- Its first pass with `A`. -/
theorem v33 : k3_pay155 (F := Ideal) (t A) (t B) (t T) (t U) (b q) (b k) (b v) = up3 (g1 A q) := by
  simp only [k3_pay155, ld0, ld1, v2, v5, v8, v11, v13, v15, k3_pay2, k3_pay3, k3_pay4, k3_pay5, k3_pay6, k3_pay7, k3_pay8, k3_pay9, k3_pay10, k3_pay11, k3_pay12, k3_pay13, k3_pay14, k3_pay15, k3_pay16, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, g1, hRe, hIm, oRe, oIm, pRe, pIm, gRe, gIm, cRe, cIm]
/-- Its first pass with `B`. -/
theorem v34 : k3_pay156 (F := Ideal) (t A) (t B) (t T) (t U) (b q) (b k) (b v) = up3 (g1 B q) := by
  simp only [k3_pay156, ld0, ld1, v2, v5, v8, v11, v13, v15, k3_pay2, k3_pay3, k3_pay4, k3_pay5, k3_pay6, k3_pay7, k3_pay8, k3_pay9, k3_pay10, k3_pay11, k3_pay12, k3_pay13, k3_pay14, k3_pay15, k3_pay16, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, g1, hRe, hIm, oRe, oIm, pRe, pIm, gRe, gIm, cRe, cIm]
/-- The product of its first pass's real part with `T`. -/
theorem v37 : k3_pay157 (F := Ideal) (t A) (t B) (t T) (t U) (b q) (b k) (b v) = up3 (rmul3 (g1 A q) (rbc T)) := by
  simp only [k3_pay157, ld0, ld1, v2, v5, v8, v11, v13, v15, k3_pay2, k3_pay3, k3_pay4, k3_pay5, k3_pay6, k3_pay7, k3_pay8, k3_pay9, k3_pay10, k3_pay11, k3_pay12, k3_pay13, k3_pay14, k3_pay15, k3_pay16, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, g1, hRe, hIm, oRe, oIm, pRe, pIm, gRe, gIm, cRe, cIm]
/-- The product of its first pass's imaginary part with `U`. -/
theorem v40 : k3_pay158 (F := Ideal) (t A) (t B) (t T) (t U) (b q) (b k) (b v) = up3 (rmul3 (g1 B q) (rbc U)) := by
  simp only [k3_pay158, ld0, ld1, v2, v5, v8, v11, v13, v15, k3_pay2, k3_pay3, k3_pay4, k3_pay5, k3_pay6, k3_pay7, k3_pay8, k3_pay9, k3_pay10, k3_pay11, k3_pay12, k3_pay13, k3_pay14, k3_pay15, k3_pay16, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, g1, hRe, hIm, oRe, oIm, pRe, pIm, gRe, gIm, cRe, cIm]
/-- Its transform's real part. -/
theorem v83 : k3_pay159 (F := Ideal) (t A) (t B) (t T) (t U) (b q) (b k) (b v) = up2 (oRe A B T U q) := by
  simp only [k3_pay159, ld0, ld1, v2, v5, v8, v11, v13, v15, v33, v34, v37, v40, k3_pay17, k3_pay18, k3_pay19, k3_pay20, k3_pay21, k3_pay22, k3_pay23, k3_pay24, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, g1, hRe, hIm, oRe, oIm, pRe, pIm, gRe, gIm, cRe, cIm]
/-- Its transform's imaginary part. -/
theorem v84 : k3_pay160 (F := Ideal) (t A) (t B) (t T) (t U) (b q) (b k) (b v) = up2 (oIm A B T U q) := by
  simp only [k3_pay160, ld0, ld1, v2, v5, v8, v11, v13, v15, v33, v34, v37, v40, k3_pay17, k3_pay18, k3_pay19, k3_pay20, k3_pay21, k3_pay22, k3_pay23, k3_pay24, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, g1, hRe, hIm, oRe, oIm, pRe, pIm, gRe, gIm, cRe, cIm]
/-! ### The second block -/
/-- The real part between its passes. -/
theorem v120 : k3_pay161 (F := Ideal) (t A) (t B) (t T) (t U) (b q) (b k) (b v) = up2 (hRe T U (g1 A k) (g1 B k)) := by
  simp only [k3_pay161, ld0, ld1, v2, v5, v8, v11, v13, v15, k3_pay25, k3_pay26, k3_pay27, k3_pay28, k3_pay29, k3_pay30, k3_pay31, k3_pay32, k3_pay33, k3_pay34, k3_pay35, k3_pay36, k3_pay37, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, g1, hRe, hIm, oRe, oIm, pRe, pIm, gRe, gIm, cRe, cIm]
/-- Its rest is zero. -/
theorem v123 : k3_pay162 (F := Ideal) (t A) (t B) (t T) (t U) (b q) (b k) (b v) = up2 rz := by
  simp only [k3_pay162, ld0, ld1, v2, v5, v8, v11, v13, v15, k3_pay25, k3_pay26, k3_pay27, k3_pay28, k3_pay29, k3_pay30, k3_pay31, k3_pay32, k3_pay33, k3_pay34, k3_pay35, k3_pay36, k3_pay37, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, g1, hRe, hIm, oRe, oIm, pRe, pIm, gRe, gIm, cRe, cIm]
/-- The imaginary part between its passes. -/
theorem v126 : k3_pay163 (F := Ideal) (t A) (t B) (t T) (t U) (b q) (b k) (b v) = up2 (hIm T U (g1 A k) (g1 B k)) := by
  simp only [k3_pay163, ld0, ld1, v2, v5, v8, v11, v13, v15, k3_pay25, k3_pay26, k3_pay27, k3_pay28, k3_pay29, k3_pay30, k3_pay31, k3_pay32, k3_pay33, k3_pay34, k3_pay35, k3_pay36, k3_pay37, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, g1, hRe, hIm, oRe, oIm, pRe, pIm, gRe, gIm, cRe, cIm]
/-- Its rest is zero. -/
theorem v129 : k3_pay164 (F := Ideal) (t A) (t B) (t T) (t U) (b q) (b k) (b v) = up2 rz := by
  simp only [k3_pay164, ld0, ld1, v2, v5, v8, v11, v13, v15, k3_pay25, k3_pay26, k3_pay27, k3_pay28, k3_pay29, k3_pay30, k3_pay31, k3_pay32, k3_pay33, k3_pay34, k3_pay35, k3_pay36, k3_pay37, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, g1, hRe, hIm, oRe, oIm, pRe, pIm, gRe, gIm, cRe, cIm]
/-- The second pass with `A` of the real part. -/
theorem v134 : k3_pay165 (F := Ideal) (t A) (t B) (t T) (t U) (b q) (b k) (b v) = up2 (rmm A (hRe T U (g1 A k) (g1 B k))) := by
  simp only [k3_pay165, ld0, ld1, v2, v5, v8, v11, v13, v15, k3_pay25, k3_pay26, k3_pay27, k3_pay28, k3_pay29, k3_pay30, k3_pay31, k3_pay32, k3_pay33, k3_pay34, k3_pay35, k3_pay36, k3_pay37, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, g1, hRe, hIm, oRe, oIm, pRe, pIm, gRe, gIm, cRe, cIm]
/-- The second pass with `B` of the imaginary part. -/
theorem v135 : k3_pay166 (F := Ideal) (t A) (t B) (t T) (t U) (b q) (b k) (b v) = up2 (rmm B (hIm T U (g1 A k) (g1 B k))) := by
  simp only [k3_pay166, ld0, ld1, v2, v5, v8, v11, v13, v15, k3_pay25, k3_pay26, k3_pay27, k3_pay28, k3_pay29, k3_pay30, k3_pay31, k3_pay32, k3_pay33, k3_pay34, k3_pay35, k3_pay36, k3_pay37, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, g1, hRe, hIm, oRe, oIm, pRe, pIm, gRe, gIm, cRe, cIm]
/-- The accumulator that the products start from. -/
theorem z54 : k3_pay167 (F := Ideal) (t A) (t B) (t T) (t U) (b q) (b k) (b v) = up2 rz := constant_up
/-! ### Their conjugate product, transformed -/
/-- The product's real part, laid out for the first pass. -/
theorem v161 : k3_pay168 (F := Ideal) (t A) (t B) (t T) (t U) (b q) (b k) (b v) = up2 (rcols (pRe A B T U q k)) := by
  simp only [k3_pay168, ld0, ld1, v2, v5, v8, v11, v13, v15, v83, v84, v120, v123, v126, v129, v134, v135, k3_pay38, k3_pay39, k3_pay40, k3_pay41, k3_pay42, k3_pay43, k3_pay44, k3_pay45, k3_pay46, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, oRe, oIm, pRe, pIm, gRe, gIm, cRe, cIm]
/-- Its rest is zero. -/
theorem v164 : k3_pay169 (F := Ideal) (t A) (t B) (t T) (t U) (b q) (b k) (b v) = up2 rz := by
  simp only [k3_pay169, ld0, ld1, v2, v5, v8, v11, v13, v15, v83, v84, v120, v123, v126, v129, v134, v135, k3_pay38, k3_pay39, k3_pay40, k3_pay41, k3_pay42, k3_pay43, k3_pay44, k3_pay45, k3_pay46, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, oRe, oIm, pRe, pIm, gRe, gIm, cRe, cIm]
/-- The product's imaginary part, laid out for the first pass. -/
theorem v166 : k3_pay170 (F := Ideal) (t A) (t B) (t T) (t U) (b q) (b k) (b v) = up2 (rcols (pIm A B T U q k)) := by
  simp only [k3_pay170, ld0, ld1, v2, v5, v8, v11, v13, v15, v83, v84, v120, v123, v126, v129, v134, v135, k3_pay38, k3_pay39, k3_pay40, k3_pay41, k3_pay42, k3_pay43, k3_pay44, k3_pay45, k3_pay46, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, oRe, oIm, pRe, pIm, gRe, gIm, cRe, cIm]
/-- Its rest is zero. -/
theorem v169 : k3_pay171 (F := Ideal) (t A) (t B) (t T) (t U) (b q) (b k) (b v) = up2 rz := by
  simp only [k3_pay171, ld0, ld1, v2, v5, v8, v11, v13, v15, v83, v84, v120, v123, v126, v129, v134, v135, k3_pay38, k3_pay39, k3_pay40, k3_pay41, k3_pay42, k3_pay43, k3_pay44, k3_pay45, k3_pay46, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, oRe, oIm, pRe, pIm, gRe, gIm, cRe, cIm]
/-- The first pass's real part. -/
theorem v180 : k3_pay172 (F := Ideal) (t A) (t B) (t T) (t U) (b q) (b k) (b v) = up2 (rsub (rmm A (rcols (pRe A B T U q k))) (rmm B (rcols (pIm A B T U q k)))) := by
  simp only [k3_pay172, ld0, ld1, v2, v5, v8, v11, v13, v15, v83, v84, v120, v123, v126, v129, v134, v135, k3_pay38, k3_pay39, k3_pay40, k3_pay41, k3_pay42, k3_pay43, k3_pay44, k3_pay45, k3_pay46, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, oRe, oIm, pRe, pIm, gRe, gIm, cRe, cIm]
/-- The first summand of the second pass's real part. -/
theorem v224 : k3_pay173 (F := Ideal) (t A) (t B) (t T) (t U) (b q) (b k) (b v) = up2 (cRe A B T U q k) := by
  simp only [k3_pay173, ld0, ld1, v2, v5, v8, v11, v13, v15, v161, v164, v166, v169, v180, z54, k3_pay47, k3_pay48, k3_pay49, k3_pay50, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, hRe, hIm, gRe, gIm, cRe, cIm]
/-- The second summand. -/
theorem v229 : k3_pay174 (F := Ideal) (t A) (t B) (t T) (t U) (b q) (b k) (b v) = up2 (cIm A B T U q k) := by
  simp only [k3_pay174, ld0, ld1, v2, v5, v8, v11, v13, v15, v161, v164, v166, v169, v180, z54, k3_pay47, k3_pay48, k3_pay49, k3_pay50, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, hRe, hIm, gRe, gIm, cRe, cIm]
/-- The word of the factor `1/4096`. -/
theorem scale_word : Ideal.ofBits .f32 0x39800000#32 = ((1 / 4096 : ℝ) : EReal) := by
  simp [Ideal.ofBits, Ideal.ieee]
  rw [← EReal.coe_mul]
  norm_num
/-- Every element times that factor. -/
theorem scale_up (X : ℕ → ℕ → ℝ) : mulf (up2 X : FVec Ideal S4096x128 .f32) (broadcast S4096x128 (FloatOps.ofBits (F := Ideal) .f32 0x39800000#32)) = up2 (fun n w => X n w * (1 / 4096)) := by
  funext i
  show (X _ _ : EReal) * Ideal.ofBits .f32 0x39800000#32 = _
  rw [scale_word]
  exact (EReal.coe_mul _ _).symm

/-- The correlation of the first two blocks. -/
theorem v233 : k3_pay51 (F := Ideal) (k3_pay173 (t A) (t B) (t T) (t U) (b q) (b k) (b v)) (k3_pay174 (t A) (t B) (t T) (t U) (b q) (b k) (b v)) = up2 (corr A B T U q k) := by
  rw [v224, v229]
  simp only [k3_pay51, subf_up, rows_up, scale_up]
  rfl

/-! ### The third block and the weights -/
/-- The imaginary part between the third block's passes. -/
theorem v667 : k3_pay200 (F := Ideal) (t A) (t B) (t T) (t U) (b q) (b k) (b v) = up2 (hIm T U (g1 A v) (g1 B v)) := by
  simp only [k3_pay200, ld0, ld1, v2, v5, v8, v11, v13, v15, k3_pay109, k3_pay110, k3_pay111, k3_pay112, k3_pay113, k3_pay114, k3_pay115, k3_pay116, k3_pay117, k3_pay118, k3_pay119, k3_pay120, k3_pay121, k3_pay122, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, g1, hRe, hIm, oRe, oIm, pRe, pIm, gRe, gIm, cRe, cIm]
/-- Its rest is zero. -/
theorem v670 : k3_pay201 (F := Ideal) (t A) (t B) (t T) (t U) (b q) (b k) (b v) = up2 rz := by
  simp only [k3_pay201, ld0, ld1, v2, v5, v8, v11, v13, v15, k3_pay109, k3_pay110, k3_pay111, k3_pay112, k3_pay113, k3_pay114, k3_pay115, k3_pay116, k3_pay117, k3_pay118, k3_pay119, k3_pay120, k3_pay121, k3_pay122, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, g1, hRe, hIm, oRe, oIm, pRe, pIm, gRe, gIm, cRe, cIm]
/-- The third block's transform, the real part. -/
theorem v693 : k3_pay202 (F := Ideal) (t A) (t B) (t T) (t U) (b q) (b k) (b v) = up2 (oRe A B T U v) := by
  simp only [k3_pay202, ld0, ld1, v2, v5, v8, v11, v13, v15, v667, v670, k3_pay109, k3_pay110, k3_pay111, k3_pay112, k3_pay113, k3_pay114, k3_pay115, k3_pay116, k3_pay117, k3_pay118, k3_pay119, k3_pay120, k3_pay121, k3_pay122, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, g1, hRe, hIm, oRe, oIm, pRe, pIm, gRe, gIm, cRe, cIm]
/-- The imaginary part. -/
theorem v694 : k3_pay203 (F := Ideal) (t A) (t B) (t T) (t U) (b q) (b k) (b v) = up2 (oIm A B T U v) := by
  simp only [k3_pay203, ld0, ld1, v2, v5, v8, v11, v13, v15, v667, v670, k3_pay109, k3_pay110, k3_pay111, k3_pay112, k3_pay113, k3_pay114, k3_pay115, k3_pay116, k3_pay117, k3_pay118, k3_pay119, k3_pay120, k3_pay121, k3_pay122, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, g1, hRe, hIm, oRe, oIm, pRe, pIm, gRe, gIm, cRe, cIm]
variable (hs : k3_pay199 (F := Ideal) (t A) (t B) (t T) (t U) (b q) (b k) (b v) = up2 s)
include hs
/-- The first pass of the weights with `A`. -/
theorem v710 : k3_pay204 (F := Ideal) (t A) (t B) (t T) (t U) (b q) (b k) (b v) = up3 (g1 A s) := by
  simp only [k3_pay204, ld0, ld1, v2, v5, v8, v11, v13, v15, hs, k3_pay123, k3_pay124, k3_pay125, k3_pay126, k3_pay127, k3_pay128, k3_pay129, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, g1]
/-- The first pass of the weights with `B`. -/
theorem v711 : k3_pay205 (F := Ideal) (t A) (t B) (t T) (t U) (b q) (b k) (b v) = up3 (g1 B s) := by
  simp only [k3_pay205, ld0, ld1, v2, v5, v8, v11, v13, v15, hs, k3_pay123, k3_pay124, k3_pay125, k3_pay126, k3_pay127, k3_pay128, k3_pay129, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, g1]
/-- The real part between the weights' passes. -/
theorem v718 : k3_pay206 (F := Ideal) (t A) (t B) (t T) (t U) (b q) (b k) (b v) = up3 (rsub3 (rmul3 (g1 A s) (rbc T)) (rmul3 (g1 B s) (rbc U))) := by
  simp only [k3_pay206, ld0, ld1, v2, v5, v8, v11, v13, v15, hs, k3_pay123, k3_pay124, k3_pay125, k3_pay126, k3_pay127, k3_pay128, k3_pay129, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, g1]
omit hs in
/-- The table `U` for every lane. -/
theorem v720 : k3_pay207 (F := Ideal) (t A) (t B) (t T) (t U) (b q) (b k) (b v) = up3 (rbc U) := by
  simp only [k3_pay207, ld0, ld1, v2, v5, v8, v11, v13, v15, k3_pay123, k3_pay124, k3_pay125, k3_pay126, k3_pay127, k3_pay128, k3_pay129, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128]
/-- The imaginary part of the conjugate product of the third block's transform with the weights'. -/
theorem v767 : k3_pay208 (F := Ideal) (t A) (t B) (t T) (t U) (b q) (b k) (b v) = up2 (rsub (rmul (oRe A B T U v) (oIm A B T U s)) (rmul (oIm A B T U v) (oRe A B T U s))) := by
  simp only [k3_pay208, ld0, ld1, v2, v5, v8, v11, v13, v15, v693, v694, v710 A B T U q k v s hs, v711 A B T U q k v s hs, v718 A B T U q k v s hs, v720, k3_pay130, k3_pay131, k3_pay132, k3_pay133, k3_pay134, k3_pay135, k3_pay136, k3_pay137, k3_pay138, k3_pay139, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, hRe, hIm, oRe, oIm]
/-- The real part of that product, laid out for the first pass. -/
theorem v768 : k3_pay209 (F := Ideal) (t A) (t B) (t T) (t U) (b q) (b k) (b v) = up2 (rcols (pRe A B T U v s)) := by
  simp only [k3_pay209, ld0, ld1, v2, v5, v8, v11, v13, v15, v693, v694, v710 A B T U q k v s hs, v711 A B T U q k v s hs, v718 A B T U q k v s hs, v720, k3_pay130, k3_pay131, k3_pay132, k3_pay133, k3_pay134, k3_pay135, k3_pay136, k3_pay137, k3_pay138, k3_pay139, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, hRe, hIm, oRe, oIm, pRe]

/-- The result block: the correlation of the third block with the weights. -/
theorem out : out3_7 (F := Ideal) (t A) (t B) (t T) (t U) (b q) (b k) (b v) = b (corr A B T U v s) := by
  have h7 := v767 A B T U q k v s hs
  have h8 := v768 A B T U q k v s hs
  rw [out3_7, View.canon_unit_zero (by funext a; fin_cases a <;> rfl)]
  simp only [v2, v5, v8, v11, v13, v15, h7, h8]
  simp only [k3_pay1, k3_pay140, k3_pay141, k3_pay142, k3_pay143, k3_pay144, k3_pay145, k3_pay146, k3_pay147, k3_pay148, t, b, cast_id_up, truncf_up, extf_up, subf_up, addf_up, mulf_up, mulf_up3, subf_up3, addf_up3, rsub_self, rmm_rz, rz_rmm, radd_rz, constant_up, matmul_up, unflat_up, flat_up, cols_up, rows_up, drop_up, bc_up, swap_up _ transposes_S64x64x128_p1_0_2_S64x64x128, scale_up, addUnit_up]
  rfl

end

end Cert.Fft

end
-- ==== Proof.Chosen.lean ====
/- The sixteen rounds of the fused kernel's selection on a block of 128 columns, the softmax of the sixteen maxima, and
   the block that holds each weight at the row it was found in. -/
module

public import proofs.«01_k».proof.Proof.Rounds
public import proofs.«01_k».proof.Proof.Fft

@[expose] public section

noncomputable section

namespace Cert.Chosen

open Idealize.ShloMosaic Idealize.ShloMosaic.ValueIdx Cert.KernelIdeal Cert.KernelIdeal.Gen Cert.Up Cert.Fft Cert.Rounds Finset

/-- The row of the `j`-th largest element of column `w`, ties to the lesser row. -/
def row (r : ℕ → ℕ → ℝ) (w j : ℕ) : ℕ := Select.I (fun n => (r n w : EReal)) j

/-- The weight of the `j`-th chosen row of column `w`. -/
def weight (r : ℕ → ℕ → ℝ) (j w : ℕ) : ℝ :=
  Real.exp (r (row r w j) w - r (row r w 0) w) / ∑ u ∈ range 16, Real.exp (r (row r w u) w - r (row r w 0) w)

/-- The weights, each at its row. -/
def spread (r : ℕ → ℕ → ℝ) (n w : ℕ) : ℝ := ∑ j ∈ range 16, if n = row r w j then weight r j w else 0

section
variable (e : ℕ → ℕ → EReal)

/-- The row numbers of a block. -/
abbrev rowNo : IVec S4096x128 32 := iota .tc S4096x128 32 [0] iota_S4096x128_d0_w32

/-- Rounds 0 to 3. -/
theorem rounds0 (x y : FVec Ideal S64x8192 .f32) (h : k3_pay51 x y = arrE e 0) :
    k3_pay52 x y = arrM e 0 ∧ k3_pay53 x y = arrI e 0 ∧ k3_pay55 x y = arrM e 1 ∧ k3_pay56 x y = arrI e 1
      ∧ k3_pay58 x y = arrM e 2 ∧ k3_pay59 x y = arrI e 2 ∧ k3_pay60 x y = arrE e 3 ∧ k3_pay61 x y = arrM e 3 := by
  have r0 : k3_pay52 x y = arrM e 0 := by simp only [k3_pay52, h]; exact max_round e _ _ _ _
  have r1 : k3_pay53 x y = arrI e 0 := by simp only [k3_pay53, r0, h]; exact idx_round e _ _ _ _ _ _
  have r2 : k3_pay54 x y = arrE e 1 := by simp only [k3_pay54, r1, h]; exact strike_round e _ _ _ _
  have r3 : k3_pay55 x y = arrM e 1 := by simp only [k3_pay55, r2]; exact max_round e _ _ _ _
  have r4 : k3_pay56 x y = arrI e 1 := by simp only [k3_pay56, r3, r2]; exact idx_round e _ _ _ _ _ _
  have r5 : k3_pay57 x y = arrE e 2 := by simp only [k3_pay57, r4, r2]; exact strike_round e _ _ _ _
  have r6 : k3_pay58 x y = arrM e 2 := by simp only [k3_pay58, r5]; exact max_round e _ _ _ _
  have r7 : k3_pay59 x y = arrI e 2 := by simp only [k3_pay59, r6, r5]; exact idx_round e _ _ _ _ _ _
  have r8 : k3_pay60 x y = arrE e 3 := by simp only [k3_pay60, r7, r5]; exact strike_round e _ _ _ _
  have r9 : k3_pay61 x y = arrM e 3 := by simp only [k3_pay61, r8]; exact max_round e _ _ _ _
  exact ⟨r0, r1, r3, r4, r6, r7, r8, r9⟩

/-- Where a block holds its maxima; the rows a round has taken. -/
abbrev atMax (t : ℕ) : IVec S4096x128 1 :=
  cmpf .oeq (arrE e t) (broadcastTo S4096x128 (shapeCast S1x128 (arrM e t) shapeCasts_S128_S1x128) broadcasts_S1x128_S4096x128)
/-- The mask of the rows that round `t` takes. -/
abbrev atRow (t : ℕ) : IVec S4096x128 1 :=
  cmpi .eq rowNo (broadcastTo S4096x128 (shapeCast S1x128 (arrI e t) shapeCasts_S128_S1x128) broadcasts_S1x128_S4096x128)

/-- Rounds 3 to 7. -/
theorem rounds1 :
    k3_pay63 rowNo (atMax e 3) 4096#32 = arrI e 3
      ∧ k3_pay64 rowNo (arrE e 3) (atMax e 3) 4096#32 = arrE e 4
      ∧ k3_pay65 rowNo (arrE e 3) (atMax e 3) 4096#32 = arrM e 4
      ∧ k3_pay66 rowNo (arrE e 3) (atMax e 3) 4096#32 = arrI e 4
      ∧ k3_pay67 rowNo (arrE e 3) (atMax e 3) 4096#32 = arrE e 5
      ∧ k3_pay68 rowNo (arrE e 3) (atMax e 3) 4096#32 = arrM e 5
      ∧ k3_pay69 rowNo (arrE e 3) (atMax e 3) 4096#32 = arrI e 5
      ∧ k3_pay70 rowNo (arrE e 3) (atMax e 3) 4096#32 = arrE e 6
      ∧ k3_pay71 rowNo (arrE e 3) (atMax e 3) 4096#32 = arrM e 6
      ∧ k3_pay72 rowNo (arrE e 3) (atMax e 3) 4096#32 = arrI e 6
      ∧ k3_pay73 rowNo (arrE e 3) (atMax e 3) 4096#32 = arrE e 7
      ∧ k3_pay74 rowNo (arrE e 3) (atMax e 3) 4096#32 = arrM e 7 := by
  have r63 : k3_pay63 rowNo (atMax e 3) 4096#32 = arrI e 3 := by simp only [k3_pay63, rowNo]; exact idx_round e _ _ _ _ _ _
  have r64 : k3_pay64 rowNo (arrE e 3) (atMax e 3) 4096#32 = arrE e 4 := by simp only [k3_pay64, r63]; exact strike_round e _ _ _ _
  have r65 : k3_pay65 rowNo (arrE e 3) (atMax e 3) 4096#32 = arrM e 4 := by simp only [k3_pay65, r64]; exact max_round e _ _ _ _
  have r66 : k3_pay66 rowNo (arrE e 3) (atMax e 3) 4096#32 = arrI e 4 := by simp only [k3_pay66, r65, r64]; exact idx_round e _ _ _ _ _ _
  have r67 : k3_pay67 rowNo (arrE e 3) (atMax e 3) 4096#32 = arrE e 5 := by simp only [k3_pay67, r66, r64]; exact strike_round e _ _ _ _
  have r68 : k3_pay68 rowNo (arrE e 3) (atMax e 3) 4096#32 = arrM e 5 := by simp only [k3_pay68, r67]; exact max_round e _ _ _ _
  have r69 : k3_pay69 rowNo (arrE e 3) (atMax e 3) 4096#32 = arrI e 5 := by simp only [k3_pay69, r68, r67]; exact idx_round e _ _ _ _ _ _
  have r70 : k3_pay70 rowNo (arrE e 3) (atMax e 3) 4096#32 = arrE e 6 := by simp only [k3_pay70, r69, r67]; exact strike_round e _ _ _ _
  have r71 : k3_pay71 rowNo (arrE e 3) (atMax e 3) 4096#32 = arrM e 6 := by simp only [k3_pay71, r70]; exact max_round e _ _ _ _
  have r72 : k3_pay72 rowNo (arrE e 3) (atMax e 3) 4096#32 = arrI e 6 := by simp only [k3_pay72, r71, r70]; exact idx_round e _ _ _ _ _ _
  have r73 : k3_pay73 rowNo (arrE e 3) (atMax e 3) 4096#32 = arrE e 7 := by simp only [k3_pay73, r72, r70]; exact strike_round e _ _ _ _
  have r74 : k3_pay74 rowNo (arrE e 3) (atMax e 3) 4096#32 = arrM e 7 := by simp only [k3_pay74, r73]; exact max_round e _ _ _ _
  exact ⟨r63, r64, r65, r66, r67, r68, r69, r70, r71, r72, r73, r74⟩

/-- Rounds 7 to 10. -/
theorem rounds2 :
    k3_pay75 rowNo (arrE e 7) (arrM e 7) = arrI e 7
      ∧ k3_pay76 rowNo (arrE e 7) (arrM e 7) = arrE e 8
      ∧ k3_pay77 rowNo (arrE e 7) (arrM e 7) = arrM e 8
      ∧ k3_pay78 rowNo (arrE e 7) (arrM e 7) = arrI e 8
      ∧ k3_pay79 rowNo (arrE e 7) (arrM e 7) = arrE e 9
      ∧ k3_pay80 rowNo (arrE e 7) (arrM e 7) = arrM e 9
      ∧ k3_pay81 rowNo (arrE e 7) (arrM e 7) = arrI e 9
      ∧ k3_pay82 rowNo (arrE e 7) (arrM e 7) = arrE e 10
      ∧ k3_pay83 rowNo (arrE e 7) (arrM e 7) = arrM e 10
      ∧ k3_pay84 rowNo (arrE e 7) (arrM e 7) = arrI e 10 := by
  have r75 : k3_pay75 rowNo (arrE e 7) (arrM e 7) = arrI e 7 := by simp only [k3_pay75, rowNo]; exact idx_round e _ _ _ _ _ _
  have r76 : k3_pay76 rowNo (arrE e 7) (arrM e 7) = arrE e 8 := by simp only [k3_pay76, r75]; exact strike_round e _ _ _ _
  have r77 : k3_pay77 rowNo (arrE e 7) (arrM e 7) = arrM e 8 := by simp only [k3_pay77, r76]; exact max_round e _ _ _ _
  have r78 : k3_pay78 rowNo (arrE e 7) (arrM e 7) = arrI e 8 := by simp only [k3_pay78, r77, r76]; exact idx_round e _ _ _ _ _ _
  have r79 : k3_pay79 rowNo (arrE e 7) (arrM e 7) = arrE e 9 := by simp only [k3_pay79, r78, r76]; exact strike_round e _ _ _ _
  have r80 : k3_pay80 rowNo (arrE e 7) (arrM e 7) = arrM e 9 := by simp only [k3_pay80, r79]; exact max_round e _ _ _ _
  have r81 : k3_pay81 rowNo (arrE e 7) (arrM e 7) = arrI e 9 := by simp only [k3_pay81, r80, r79]; exact idx_round e _ _ _ _ _ _
  have r82 : k3_pay82 rowNo (arrE e 7) (arrM e 7) = arrE e 10 := by simp only [k3_pay82, r81, r79]; exact strike_round e _ _ _ _
  have r83 : k3_pay83 rowNo (arrE e 7) (arrM e 7) = arrM e 10 := by simp only [k3_pay83, r82]; exact max_round e _ _ _ _
  have r84 : k3_pay84 rowNo (arrE e 7) (arrM e 7) = arrI e 10 := by simp only [k3_pay84, r83, r82]; exact idx_round e _ _ _ _ _ _
  exact ⟨r75, r76, r77, r78, r79, r80, r81, r82, r83, r84⟩

/-- The mask of round 10, as the body carries it. -/
theorem taken10 : k3_pay85 rowNo (arrE e 7) (arrM e 7) = atRow e 10 := by
  simp only [k3_pay85, (rounds2 e).2.2.2.2.2.2.2.2.2]

/-- Rounds 10 to 14. -/
theorem rounds3 :
    k3_pay86 (arrE e 10) (atRow e 10) (Scalar.ofBits (F := Ideal) .f32 0xFF800000#32) = arrE e 11
      ∧ k3_pay87 (arrE e 10) (atRow e 10) (Scalar.ofBits (F := Ideal) .f32 0xFF800000#32) = arrM e 11
      ∧ k3_pay88 rowNo (arrE e 10) (atRow e 10) (Scalar.ofBits (F := Ideal) .f32 0xFF800000#32) = arrI e 11
      ∧ k3_pay89 rowNo (arrE e 10) (atRow e 10) (Scalar.ofBits (F := Ideal) .f32 0xFF800000#32) = arrE e 12
      ∧ k3_pay90 rowNo (arrE e 10) (atRow e 10) (Scalar.ofBits (F := Ideal) .f32 0xFF800000#32) = arrM e 12
      ∧ k3_pay91 rowNo (arrE e 10) (atRow e 10) (Scalar.ofBits (F := Ideal) .f32 0xFF800000#32) = arrI e 12
      ∧ k3_pay92 rowNo (arrE e 10) (atRow e 10) (Scalar.ofBits (F := Ideal) .f32 0xFF800000#32) = arrE e 13
      ∧ k3_pay93 rowNo (arrE e 10) (atRow e 10) (Scalar.ofBits (F := Ideal) .f32 0xFF800000#32) = arrM e 13
      ∧ k3_pay94 rowNo (arrE e 10) (atRow e 10) (Scalar.ofBits (F := Ideal) .f32 0xFF800000#32) = arrI e 13
      ∧ k3_pay95 rowNo (arrE e 10) (atRow e 10) (Scalar.ofBits (F := Ideal) .f32 0xFF800000#32) = arrE e 14
      ∧ k3_pay96 rowNo (arrE e 10) (atRow e 10) (Scalar.ofBits (F := Ideal) .f32 0xFF800000#32) = arrM e 14
      ∧ k3_pay97 rowNo (arrE e 10) (atRow e 10) (Scalar.ofBits (F := Ideal) .f32 0xFF800000#32) = arrI e 14 := by
  have r86 : k3_pay86 (arrE e 10) (atRow e 10) (Scalar.ofBits (F := Ideal) .f32 0xFF800000#32) = arrE e 11 := by simp only [k3_pay86, rowNo]; exact strike_round e _ _ _ _
  have r87 : k3_pay87 (arrE e 10) (atRow e 10) (Scalar.ofBits (F := Ideal) .f32 0xFF800000#32) = arrM e 11 := by simp only [k3_pay87, r86]; exact max_round e _ _ _ _
  have r88 : k3_pay88 rowNo (arrE e 10) (atRow e 10) (Scalar.ofBits (F := Ideal) .f32 0xFF800000#32) = arrI e 11 := by simp only [k3_pay88, r87, r86]; exact idx_round e _ _ _ _ _ _
  have r89 : k3_pay89 rowNo (arrE e 10) (atRow e 10) (Scalar.ofBits (F := Ideal) .f32 0xFF800000#32) = arrE e 12 := by simp only [k3_pay89, r88, r86]; exact strike_round e _ _ _ _
  have r90 : k3_pay90 rowNo (arrE e 10) (atRow e 10) (Scalar.ofBits (F := Ideal) .f32 0xFF800000#32) = arrM e 12 := by simp only [k3_pay90, r89]; exact max_round e _ _ _ _
  have r91 : k3_pay91 rowNo (arrE e 10) (atRow e 10) (Scalar.ofBits (F := Ideal) .f32 0xFF800000#32) = arrI e 12 := by simp only [k3_pay91, r90, r89]; exact idx_round e _ _ _ _ _ _
  have r92 : k3_pay92 rowNo (arrE e 10) (atRow e 10) (Scalar.ofBits (F := Ideal) .f32 0xFF800000#32) = arrE e 13 := by simp only [k3_pay92, r91, r89]; exact strike_round e _ _ _ _
  have r93 : k3_pay93 rowNo (arrE e 10) (atRow e 10) (Scalar.ofBits (F := Ideal) .f32 0xFF800000#32) = arrM e 13 := by simp only [k3_pay93, r92]; exact max_round e _ _ _ _
  have r94 : k3_pay94 rowNo (arrE e 10) (atRow e 10) (Scalar.ofBits (F := Ideal) .f32 0xFF800000#32) = arrI e 13 := by simp only [k3_pay94, r93, r92]; exact idx_round e _ _ _ _ _ _
  have r95 : k3_pay95 rowNo (arrE e 10) (atRow e 10) (Scalar.ofBits (F := Ideal) .f32 0xFF800000#32) = arrE e 14 := by simp only [k3_pay95, r94, r92]; exact strike_round e _ _ _ _
  have r96 : k3_pay96 rowNo (arrE e 10) (atRow e 10) (Scalar.ofBits (F := Ideal) .f32 0xFF800000#32) = arrM e 14 := by simp only [k3_pay96, r95]; exact max_round e _ _ _ _
  have r97 : k3_pay97 rowNo (arrE e 10) (atRow e 10) (Scalar.ofBits (F := Ideal) .f32 0xFF800000#32) = arrI e 14 := by simp only [k3_pay97, r96, r95]; exact idx_round e _ _ _ _ _ _
  exact ⟨r86, r87, r88, r89, r90, r91, r92, r93, r94, r95, r96, r97⟩

/-- Round 15. -/
theorem rounds4 :
    k3_pay98 rowNo (arrE e 14) (arrI e 14) = arrE e 15
      ∧ k3_pay99 rowNo (arrE e 14) (arrI e 14) = arrM e 15
      ∧ k3_pay100 rowNo (arrE e 14) (arrI e 14) = arrI e 15 := by
  have r98 : k3_pay98 rowNo (arrE e 14) (arrI e 14) = arrE e 15 := by simp only [k3_pay98, rowNo]; exact strike_round e _ _ _ _
  have r99 : k3_pay99 rowNo (arrE e 14) (arrI e 14) = arrM e 15 := by simp only [k3_pay99, r98]; exact max_round e _ _ _ _
  have r100 : k3_pay100 rowNo (arrE e 14) (arrI e 14) = arrI e 15 := by simp only [k3_pay100, r99, r98]; exact idx_round e _ _ _ _ _ _
  exact ⟨r98, r99, r100⟩

end

section
variable (r : ℕ → ℕ → ℝ)

/-- The columns of a real block. -/
abbrev cols : ℕ → ℕ → EReal := fun w n => (r n w : EReal)

/-- The chosen elements. -/
def best (j w : ℕ) : ℝ := r (row r w j) w

/-- Round `t`'s maxima are the real values at the rows taken. -/
theorem arrM_best (t : ℕ) (ht : t < 4096) : arrM (cols r) t = up1 (best r t) := arrM_up t r ht

/-- The softmax of a block of sixteen rows, down its columns. -/
def soft (c : FVec Ideal S16x128 .f32) : FVec Ideal S16x128 .f32 :=
  let x := exp (subf c (broadcastTo S16x128 (shapeCast S1x128 (shapeCast S128 (extractStridedSlice S1x128 ![0, 0] c slices_S16x128_o0_0_S1x128)
    shapeCasts_S1x128_S128) shapeCasts_S128_S1x128) broadcasts_S1x128_S16x128))
  divf x (broadcastTo S16x128 (shapeCast S1x128 (multiReduction .add [0] S128 x 0x00000000#32 reduces_S16x128_S128 (.inl rfl) rfl)
    shapeCasts_S128_S1x128) broadcasts_S1x128_S16x128)

/-- On reals, the exponential of the difference to the first row over the sum of these. -/
theorem soft_up (X : ℕ → ℕ → ℝ) : soft (up2 X) = up2 fun j w => Real.exp (X j w - X 0 w) / ∑ u ∈ range 16, Real.exp (X u w - X 0 w) := by
  have hpos : ∀ j : ℕ, (∑ u ∈ range 16, Real.exp (X u j - X 0 j)) ≠ 0 := fun j =>
    (Finset.sum_pos (fun u _ => Real.exp_pos _) ⟨0, by simp⟩).ne'
  simp only [soft, slice_up, flat1_up, row1_up, rows16_up, subf_up, exp_up]
  refine (congrArg (fun s : FVec Ideal S128 .f32 => divf (up2 fun i j => Real.exp (rsub X (fun _ w => X (0 + 0) (0 + w)) i j) : FVec Ideal S16x128 .f32)
    (broadcastTo S16x128 (shapeCast S1x128 s shapeCasts_S128_S1x128) broadcasts_S1x128_S16x128)) (sum16_up _ _ _ _)).trans ?_
  rw [row1_up, rows16_up, div16_up]
  · simp only [rsub, Nat.add_zero, Nat.zero_add]
  · simp only [rsub, Nat.add_zero, Nat.zero_add]
    exact fun _ j => hpos j

/-- Sixteen vectors as the rows of a block. -/
def stack (m0 m1 m2 m3 m4 m5 m6 m7 m8 m9 m10 m11 m12 m13 m14 m15 : FVec Ideal S128 .f32) : FVec Ideal S16x128 .f32 :=
  concatenate S16x128 0 [⟨S1x128, shapeCast S1x128 m0 shapeCasts_S128_S1x128⟩, ⟨S1x128, shapeCast S1x128 m1 shapeCasts_S128_S1x128⟩, ⟨S1x128, shapeCast S1x128 m2 shapeCasts_S128_S1x128⟩, ⟨S1x128, shapeCast S1x128 m3 shapeCasts_S128_S1x128⟩, ⟨S1x128, shapeCast S1x128 m4 shapeCasts_S128_S1x128⟩, ⟨S1x128, shapeCast S1x128 m5 shapeCasts_S128_S1x128⟩, ⟨S1x128, shapeCast S1x128 m6 shapeCasts_S128_S1x128⟩, ⟨S1x128, shapeCast S1x128 m7 shapeCasts_S128_S1x128⟩, ⟨S1x128, shapeCast S1x128 m8 shapeCasts_S128_S1x128⟩, ⟨S1x128, shapeCast S1x128 m9 shapeCasts_S128_S1x128⟩, ⟨S1x128, shapeCast S1x128 m10 shapeCasts_S128_S1x128⟩, ⟨S1x128, shapeCast S1x128 m11 shapeCasts_S128_S1x128⟩, ⟨S1x128, shapeCast S1x128 m12 shapeCasts_S128_S1x128⟩, ⟨S1x128, shapeCast S1x128 m13 shapeCasts_S128_S1x128⟩, ⟨S1x128, shapeCast S1x128 m14 shapeCasts_S128_S1x128⟩, ⟨S1x128, shapeCast S1x128 m15 shapeCasts_S128_S1x128⟩]
    concatenates_S1x128_S1x128_S1x128_S1x128_S1x128_S1x128_S1x128_S1x128_S1x128_S1x128_S1x128_S1x128_S1x128_S1x128_S1x128_S1x128_S16x128_d0

/-- The body's stacked maxima and their softmax, as `soft` of `stack`. -/
theorem pay101_eq (m0 m1 m2 m3 m4 m5 m6 m7 m8 m9 m10 m11 m12 m13 m14 : FVec Ideal S128 .f32) (e : FVec Ideal S4096x128 .f32) (i : IVec S128 32) :
    k3_pay101 rowNo m0 m1 m2 m3 m4 m5 m6 m7 m8 m9 m10 m11 m12 m13 e m14 i = soft (stack m0 m1 m2 m3 m4 m5 m6 m7 m8 m9 m10 m11 m12 m13 m14 (k3_pay99 rowNo e i)) := rfl

/-- The sixteen maxima stacked: row `j` is round `j`'s. -/
theorem stack_best : stack (arrM (cols r) 0) (arrM (cols r) 1) (arrM (cols r) 2) (arrM (cols r) 3) (arrM (cols r) 4) (arrM (cols r) 5) (arrM (cols r) 6) (arrM (cols r) 7) (arrM (cols r) 8) (arrM (cols r) 9) (arrM (cols r) 10) (arrM (cols r) 11) (arrM (cols r) 12) (arrM (cols r) 13) (arrM (cols r) 14) (arrM (cols r) 15) = up2 (best r) :=
  stack_up (best r) (fun n => shapeCast S1x128 (arrM (cols r) n) shapeCasts_S128_S1x128)
    (fun n hn => by show shapeCast S1x128 (arrM (cols r) n) _ = _; rw [arrM_best r n (by omega), row1_up]) _

/-- The softmax of the sixteen maxima. -/
theorem softmax : k3_pay101 rowNo (arrM (cols r) 0) (arrM (cols r) 1) (arrM (cols r) 2) (arrM (cols r) 3) (arrM (cols r) 4) (arrM (cols r) 5) (arrM (cols r) 6) (arrM (cols r) 7) (arrM (cols r) 8) (arrM (cols r) 9) (arrM (cols r) 10) (arrM (cols r) 11) (arrM (cols r) 12) (arrM (cols r) 13) (arrE (cols r) 14) (arrM (cols r) 14) (arrI (cols r) 14)
    = up2 (weight r) := by
  rw [pay101_eq, (rounds4 (cols r)).2.1, stack_best, soft_up]
  rfl

/-! ### The weights at their rows -/

/-- One weight at its row. -/
def put (j : ℕ) : ℕ → ℕ → ℝ := fun n w => if n = row r w j then weight r j w else 0

/-- The weight `j` as every row of a block, at the rows of round `j`. -/
theorem put_up (j : ℕ) (h : S16x128.Slices ![j, 0] S1x128) :
    select (atRow (cols r) j)
      (broadcastTo S4096x128 (shapeCast S1x128 (shapeCast S1x128 (shapeCast S128 (extractStridedSlice S1x128 ![j, 0] (up2 (weight r) : FVec Ideal S16x128 .f32) h)
        shapeCasts_S1x128_S128) shapeCasts_S128_S1x128) shapeCasts_S1x128_S1x128) broadcasts_S1x128_S4096x128)
      (broadcast S4096x128 (FloatOps.ofBits (F := Ideal) .f32 0x00000000#32)) = up2 (put r j) := by
  rw [slice_up, flat1_up, row1_up, id1_up, Rounds.rows_up, pick_up]
  simp only [Nat.add_zero, Nat.zero_add]
  rfl

/-- A weight added at its row. -/
theorem step (j : ℕ) (h : S16x128.Slices ![j, 0] S1x128) {x : FVec Ideal S4096x128 .f32} {z : ℕ → ℕ → ℝ} (hx : x = up2 z) :
    addf x (select (atRow (cols r) j)
      (broadcastTo S4096x128 (shapeCast S1x128 (shapeCast S1x128 (shapeCast S128 (extractStridedSlice S1x128 ![j, 0] (up2 (weight r) : FVec Ideal S16x128 .f32) h)
        shapeCasts_S1x128_S128) shapeCasts_S128_S1x128) shapeCasts_S1x128_S1x128) broadcasts_S1x128_S4096x128)
      (broadcast S4096x128 (FloatOps.ofBits (F := Ideal) .f32 0x00000000#32))) = up2 (radd z (put r j)) := by
  rw [hx, put_up, addf_up]

/-- The word rows of round `j` over a block. -/
abbrev rowBlock (j : ℕ) : IVec S4096x128 32 :=
  broadcastTo S4096x128 (shapeCast S1x128 (arrI (cols r) j) shapeCasts_S128_S1x128) broadcasts_S1x128_S4096x128

/-- The block the additions start from. -/
theorem zero_eq : (broadcast S4096x128 (Scalar.ofBits (F := Ideal) .f32 0x00000000#32) : FVec Ideal S4096x128 .f32) = up2 rz := zero_up

/-- The first weight put at its rows. -/
theorem spread0 : k3_pay102 rowNo (arrM (cols r) 0) (arrI (cols r) 0) (arrM (cols r) 1) (arrM (cols r) 2) (arrM (cols r) 3) (arrM (cols r) 4) (arrM (cols r) 5) (arrM (cols r) 6) (arrM (cols r) 7) (arrM (cols r) 8) (arrM (cols r) 9) (arrM (cols r) 10) (arrM (cols r) 11) (arrM (cols r) 12) (arrM (cols r) 13) (arrE (cols r) 14) (arrM (cols r) 14) (arrI (cols r) 14)
    = up2 (radd rz (put r 0)) := by
  simp only [k3_pay102, softmax]
  exact step r 0 _ zero_eq

/-- Weights 1 to 5 put at their rows, over what was there. -/
theorem spread1 (z : ℕ → ℕ → ℝ) : k3_pay104 rowNo (arrI (cols r) 2) (arrI (cols r) 3) (arrI (cols r) 4) (arrI (cols r) 5) (up2 (weight r)) (up2 z) (rowBlock r 1)
    = up2 (radd (radd (radd (radd (radd z (put r 1)) (put r 2)) (put r 3)) (put r 4)) (put r 5)) :=
  step r 5 _ (step r 4 _ (step r 3 _ (step r 2 _ (step r 1 _ rfl))))

/-- Weights 6 to 10 put at their rows. -/
theorem spread2 (z : ℕ → ℕ → ℝ) : k3_pay106 rowNo (arrI (cols r) 7) (arrI (cols r) 8) (arrI (cols r) 9) (arrI (cols r) 10) (up2 (weight r)) (up2 z) (rowBlock r 6)
    = up2 (radd (radd (radd (radd (radd z (put r 6)) (put r 7)) (put r 8)) (put r 9)) (put r 10)) :=
  step r 10 _ (step r 9 _ (step r 8 _ (step r 7 _ (step r 6 _ rfl))))

/-- Weights 11 to 15 put at their rows. -/
theorem spread3 (z : ℕ → ℕ → ℝ) : k3_pay108 rowNo (arrI (cols r) 12) (arrI (cols r) 13) (arrI (cols r) 14) (arrI (cols r) 15) (up2 (weight r)) (up2 z) (rowBlock r 11)
    = up2 (radd (radd (radd (radd (radd z (put r 11)) (put r 12)) (put r 13)) (put r 14)) (put r 15)) :=
  step r 15 _ (step r 14 _ (step r 13 _ (step r 12 _ (step r 11 _ rfl))))

end

section
variable (A B T U q k v : ℕ → ℕ → ℝ)

/-- The weights at their rows, as the body composes them. -/
theorem weights : k3_pay199 (F := Ideal) (t A) (t B) (t T) (t U) (b q) (b k) (b v) = up2 (spread (corr A B T U q k)) := by
  have h0 := rounds0 (cols (corr A B T U q k)) _ _ (v233 A B T U q k v)
  obtain ⟨h52, h53, h55, h56, h58, h59, h60, h61⟩ := h0
  have e175 : k3_pay175 (F := Ideal) (t A) (t B) (t T) (t U) (b q) (b k) (b v) = rowNo := rfl
  have e176 : k3_pay176 (F := Ideal) (t A) (t B) (t T) (t U) (b q) (b k) (b v) = _ := h52
  have e177 : k3_pay177 (F := Ideal) (t A) (t B) (t T) (t U) (b q) (b k) (b v) = _ := h55
  have e178 : k3_pay178 (F := Ideal) (t A) (t B) (t T) (t U) (b q) (b k) (b v) = _ := h58
  have e179 : k3_pay179 (F := Ideal) (t A) (t B) (t T) (t U) (b q) (b k) (b v) = _ := h60
  have e180 : k3_pay180 (F := Ideal) (t A) (t B) (t T) (t U) (b q) (b k) (b v) = _ := h61
  have e181 : k3_pay181 (F := Ideal) (t A) (t B) (t T) (t U) (b q) (b k) (b v) = atMax (cols (corr A B T U q k)) 3 := by
    simp only [k3_pay181, k3_pay62, h60, h61]
  obtain ⟨h63, h64, h65, h66, h67, h68, h69, h70, h71, h72, h73, h74⟩ := rounds1 (cols (corr A B T U q k))
  obtain ⟨h75, h76, h77, h78, h79, h80, h81, h82, h83, h84⟩ := rounds2 (cols (corr A B T U q k))
  have h85 := taken10 (cols (corr A B T U q k))
  obtain ⟨h86, h87, h88, h89, h90, h91, h92, h93, h94, h95, h96, h97⟩ := rounds3 (cols (corr A B T U q k))
  obtain ⟨h98, h99, h100⟩ := rounds4 (cols (corr A B T U q k))
  have hz : (broadcast S4096x128 (FloatOps.ofBits (F := Ideal) .f32 0x00000000#32) : FVec Ideal S4096x128 .f32) = up2 rz := zero_up
  have hsoft := softmax (corr A B T U q k)
  have e198 : k3_pay198 (F := Ideal) (t A) (t B) (t T) (t U) (b q) (b k) (b v) = up2 (weight (corr A B T U q k)) := by
    simp only [k3_pay198, k3_pay197, k3_pay196, k3_pay195, k3_pay194, k3_pay193, k3_pay192, k3_pay191, k3_pay190, k3_pay189, k3_pay188, k3_pay187, k3_pay186, k3_pay185, k3_pay184, k3_pay183, k3_pay182,
      e175, e176, e177, e178, e179, e180, e181, h65, h68, h71, h73, h74, h77, h80, h82, h83, h85, h87, h90, h93, h95, h96, h97]
    exact hsoft
  rw [k3_pay199]
  simp only [k3_pay197, k3_pay196, k3_pay195, k3_pay194, k3_pay193, k3_pay192, k3_pay191, k3_pay190, k3_pay189, k3_pay188, k3_pay187, k3_pay186, k3_pay185, k3_pay184, k3_pay183, k3_pay182,
    e175, e176, e177, e178, e179, e180, e181, e198, h53, h56, h59, h63, h65, h66, h68, h69, h71, h72, h73, h74, h75, h77, h78, h80, h81, h82, h83, h84, h85, h87, h88, h90, h91, h93, h94, h95, h96, h97, h98, h99, h100]
  rw [show k3_pay103 (arrI (cols (corr A B T U q k)) 1) = rowBlock (corr A B T U q k) 1 from rfl, show k3_pay105 (arrI (cols (corr A B T U q k)) 6) = rowBlock (corr A B T U q k) 6 from rfl,
    show k3_pay107 (arrI (cols (corr A B T U q k)) 11) = rowBlock (corr A B T U q k) 11 from rfl, spread0, spread1, spread2, spread3]
  congr 1
  funext n w
  simp only [radd, rz, put, spread, Finset.sum_range_succ, Finset.sum_range_zero]

end

end Cert.Chosen

end
-- ==== Proof.Fourier.lean ====
/- The discrete Fourier transform of length 4096 over the reals: its factorisation into two passes of length 64 with a
   turn between them, and the circular correlation theorem. -/
module

public import Mathlib.Analysis.SpecialFunctions.Trigonometric.Basic

public import Mathlib.Analysis.SpecialFunctions.Complex.Log
public import Mathlib.Algebra.Field.GeomSum

@[expose] public section

noncomputable section

namespace Cert.Fourier

open Finset

/-- The turn of `t` 4096ths of a circle, clockwise. -/
def e (t : ℕ) : ℂ := Complex.exp (-(2 * Real.pi * t / 4096 : ℝ) * Complex.I)

/-- The cosine and the sine of `t` 4096ths of a turn. -/
def co (t : ℕ) : ℝ := Real.cos (2 * Real.pi * t / 4096)
/-- The sine of `t` 4096ths of a turn. -/
def si (t : ℕ) : ℝ := Real.sin (2 * Real.pi * t / 4096)

/-- Turns add up. -/
theorem e_add (s t : ℕ) : e (s + t) = e s * e t := by
  rw [e, e, e, ← Complex.exp_add]; congr 1; push_cast; ring

/-- The real and imaginary part of a turn. -/
theorem e_eq (t : ℕ) : e t = ⟨co t, -si t⟩ := by
  have h : e t = Complex.exp (((-(2 * Real.pi * t / 4096) : ℝ) : ℂ) * Complex.I) := by rw [e]; push_cast; ring_nf
  rw [h]
  apply Complex.ext
  · rw [Complex.exp_ofReal_mul_I_re, Real.cos_neg]; rfl
  · rw [Complex.exp_ofReal_mul_I_im, Real.sin_neg]; rfl

/-- No turn. -/
theorem e_zero : e 0 = 1 := by simp [e]

/-- A whole turn. -/
theorem e_turn : e 4096 = 1 := by
  rw [e, show (-((2 * Real.pi * (4096 : ℕ) / 4096 : ℝ) : ℂ) * Complex.I) = -(2 * Real.pi * Complex.I) by push_cast; ring,
    Complex.exp_neg, Complex.exp_two_pi_mul_I, inv_one]

/-- A multiple of a turn is a power. -/
theorem e_mul (s t : ℕ) : e (s * t) = e s ^ t := by
  induction t with
  | zero => simp [e_zero]
  | succ t ih => rw [Nat.mul_succ, e_add, ih, pow_succ]

/-- Whole turns. -/
theorem e_turns (t : ℕ) : e (4096 * t) = 1 := by rw [e_mul, e_turn, one_pow]

/-- Whole turns change nothing. -/
theorem e_add_turns (s t : ℕ) : e (s + 4096 * t) = e s := by rw [e_add, e_turns, mul_one]

/-- A turn depends on its remainder alone. -/
theorem e_mod (t : ℕ) : e (t % 4096) = e t := by
  conv_rhs => rw [← Nat.mod_add_div t 4096, e_add_turns]

/-- So does its cosine. -/
theorem co_mod (t : ℕ) : co (t % 4096) = co t := by
  have := congrArg Complex.re (e_mod t); rwa [e_eq, e_eq] at this

/-- So does its sine. -/
theorem si_mod (t : ℕ) : si (t % 4096) = si t := by
  have := congrArg Complex.im (e_mod t); rw [e_eq, e_eq] at this; exact neg_injective this

/-- Splitting a sum over 4096 positions as 64 rows of 64. -/
theorem sum_rows {M : Type} [AddCommMonoid M] (f : ℕ → M) :
    ∑ n ∈ range 4096, f n = ∑ n2 ∈ range 64, ∑ n1 ∈ range 64, f (n1 * 64 + n2) := by
  rw [Finset.sum_comm, Finset.sum_range, Finset.sum_range,
    ← Equiv.sum_comp (finProdFinEquiv (m := 64) (n := 64)) (fun i => f i.val), Fintype.sum_prod_type]
  refine Finset.sum_congr rfl fun a _ => ?_
  rw [Finset.sum_range]
  refine Finset.sum_congr rfl fun b _ => ?_
  congr 1
  simp [finProdFinEquiv]; ring

/-- **The four-step factorisation.** -/
theorem four_step (x : ℕ → ℂ) (k1 k2 : ℕ) :
    ∑ n2 ∈ range 64, e (64 * (k2 * n2)) * (e (k1 * n2) * ∑ n1 ∈ range 64, e (64 * (k1 * n1)) * x (n1 * 64 + n2))
      = ∑ n ∈ range 4096, e ((k2 * 64 + k1) * n) * x n := by
  rw [sum_rows]
  refine Finset.sum_congr rfl fun n2 _ => ?_
  rw [Finset.mul_sum, Finset.mul_sum]
  refine Finset.sum_congr rfl fun n1 _ => ?_
  rw [← mul_assoc, ← mul_assoc, ← e_add, ← e_add]
  congr 1
  rw [← e_add_turns (64 * (k2 * n2) + k1 * n2 + 64 * (k1 * n1)) (k2 * n1)]
  congr 1; ring

/-- The turns at a nonzero frequency add up to zero. -/
theorem sum_e {d : ℕ} : ∑ f ∈ range 4096, e (f * d) = if d % 4096 = 0 then 4096 else 0 := by
  have h : ∀ f, e (f * d) = e d ^ f := fun f => by rw [mul_comm, e_mul]
  simp only [h]
  split_ifs with hd
  · rw [← e_mod, hd, e_zero]; simp
  · have h1 : e d ≠ 1 := by
      intro hc
      rw [e, Complex.exp_eq_one_iff] at hc
      obtain ⟨n, hn⟩ := hc
      have h2 : (d : ℂ) = -(4096 * n) := by
        have hpi : (Real.pi : ℂ) ≠ 0 := by exact_mod_cast Real.pi_ne_zero
        have hI := Complex.I_ne_zero
        have h3 : (2 * Real.pi * Complex.I : ℂ) * (d + 4096 * n) = 0 := by
          push_cast at hn
          linear_combination (-4096 : ℂ) * hn
        have h4 : (2 * Real.pi * Complex.I : ℂ) ≠ 0 := by simp [hpi, hI]
        have := (mul_eq_zero.mp h3).resolve_left h4
        linear_combination this
      have h5 : (d : ℤ) = -(4096 * n) := by exact_mod_cast h2
      omega
    rw [geom_sum_eq h1, ← e_mul, mul_comm, e_turns, sub_self, zero_div]

/-- The cosine and sine sums of a real signal: its transform is `C - i S`. -/
def C (x : ℕ → ℝ) (k : ℕ) : ℝ := ∑ n ∈ range 4096, co (k * n) * x n
/-- The sine sum of a real signal. -/
def S (x : ℕ → ℝ) (k : ℕ) : ℝ := ∑ n ∈ range 4096, si (k * n) * x n

/-- A sum of complex numbers by its parts. -/
theorem sum_mk {ι : Type} (s : Finset ι) (f g : ι → ℝ) :
    (∑ i ∈ s, (⟨f i, g i⟩ : ℂ)) = ⟨∑ i ∈ s, f i, ∑ i ∈ s, g i⟩ := by
  apply Complex.ext <;> simp

/-- A product of complex numbers by its parts. -/
theorem mk_mul (a b c d : ℝ) : (⟨a, b⟩ * ⟨c, d⟩ : ℂ) = ⟨a * c - b * d, a * d + b * c⟩ :=
  Complex.ext (Complex.mul_re _ _) (Complex.mul_im _ _)

/-- The transform of a complex signal by the cosine and sine sums of its parts. -/
theorem dft_mk (xr xi : ℕ → ℝ) (k : ℕ) :
    ∑ n ∈ range 4096, e (k * n) * (⟨xr n, xi n⟩ : ℂ) = ⟨C xr k + S xi k, C xi k - S xr k⟩ := by
  simp only [e_eq, mk_mul, sum_mk, C, S]
  apply Complex.ext <;> simp only [Finset.sum_add_distrib, Finset.sum_sub_distrib, neg_mul, Finset.sum_neg_distrib] <;> ring

/-- A real signal's cosine sum through two passes of length 64. -/
theorem four_step_mk (xr xi : ℕ → ℝ) (k1 k2 : ℕ) (gr gi hr hi : ℕ → ℝ)
    (hgr : ∀ n2, gr n2 = ∑ n1 ∈ range 64, co (64 * (k1 * n1)) * xr (n1 * 64 + n2) + ∑ n1 ∈ range 64, si (64 * (k1 * n1)) * xi (n1 * 64 + n2))
    (hgi : ∀ n2, gi n2 = ∑ n1 ∈ range 64, co (64 * (k1 * n1)) * xi (n1 * 64 + n2) - ∑ n1 ∈ range 64, si (64 * (k1 * n1)) * xr (n1 * 64 + n2))
    (hhr : ∀ n2, hr n2 = co (k1 * n2) * gr n2 + si (k1 * n2) * gi n2)
    (hhi : ∀ n2, hi n2 = co (k1 * n2) * gi n2 - si (k1 * n2) * gr n2) :
    ∑ n2 ∈ range 64, co (64 * (k2 * n2)) * hr n2 + ∑ n2 ∈ range 64, si (64 * (k2 * n2)) * hi n2
        = C xr (k2 * 64 + k1) + S xi (k2 * 64 + k1)
    ∧ ∑ n2 ∈ range 64, co (64 * (k2 * n2)) * hi n2 - ∑ n2 ∈ range 64, si (64 * (k2 * n2)) * hr n2
        = C xi (k2 * 64 + k1) - S xr (k2 * 64 + k1) := by
  have h := four_step (fun n => (⟨xr n, xi n⟩ : ℂ)) k1 k2
  rw [dft_mk] at h
  have hG : ∀ n2, ∑ n1 ∈ range 64, e (64 * (k1 * n1)) * (⟨xr (n1 * 64 + n2), xi (n1 * 64 + n2)⟩ : ℂ) = ⟨gr n2, gi n2⟩ := by
    intro n2
    simp only [e_eq, mk_mul, sum_mk, hgr, hgi]
    apply Complex.ext <;> simp only [Finset.sum_add_distrib, Finset.sum_sub_distrib, neg_mul, Finset.sum_neg_distrib] <;> ring
  have hH : ∀ n2, e (k1 * n2) * (⟨gr n2, gi n2⟩ : ℂ) = ⟨hr n2, hi n2⟩ := by
    intro n2
    rw [e_eq, mk_mul, hhr, hhi]
    apply Complex.ext <;> simp only <;> ring
  simp only [hG, hH] at h
  simp only [e_eq, mk_mul, sum_mk] at h
  have hr' := congrArg Complex.re h
  have hi' := congrArg Complex.im h
  simp only [Finset.sum_add_distrib, Finset.sum_sub_distrib, neg_mul, Finset.sum_neg_distrib] at hr' hi'
  constructor <;> linarith

/-- The conjugate of a turn is the turn that completes it. -/
theorem conj_e (f n : ℕ) (hn : n ≤ 4096) : (starRingEnd ℂ) (e (f * n)) = e (f * (4096 - n)) := by
  have h1 : e (f * n) * e (f * (4096 - n)) = 1 := by
    rw [← e_add, ← Nat.mul_add, Nat.add_sub_cancel' hn, mul_comm, e_turns]
  have h2 : (starRingEnd ℂ) (e (f * n)) * e (f * n) = 1 := by
    rw [e_eq]
    apply Complex.ext
    · simp [Complex.mul_re]; nlinarith [Real.cos_sq_add_sin_sq (2 * Real.pi * (f * n : ℕ) / 4096), co, si, sq (co (f * n)),
        show co (f * n) * co (f * n) + si (f * n) * si (f * n) = 1 from by
          rw [co, si, ← sq, ← sq, Real.cos_sq_add_sin_sq]]
    · simp [Complex.mul_im]; ring
  calc _ = (starRingEnd ℂ) (e (f * n)) * (e (f * n) * e (f * (4096 - n))) := by rw [h1, mul_one]
    _ = _ := by rw [← mul_assoc, h2, one_mul]

/-- **Circular correlation.** The transform of the conjugate product, over 4096, is the correlation. -/
theorem correlation (v s : ℕ → ℝ) (l : ℕ) (pr pi : ℕ → ℝ)
    (hr : ∀ f, pr f = C v f * C s f + S v f * S s f) (hi : ∀ f, pi f = S v f * C s f - C v f * S s f) :
    C pr l + S pi l = 4096 * ∑ m ∈ range 4096, v ((l + m) % 4096) * s m := by
  have hv : ∀ x : ℕ → ℝ, ∀ f, ∑ n ∈ range 4096, e (f * n) * (x n : ℂ) = ⟨C x f, -S x f⟩ := by
    intro x f
    have := dft_mk x (fun _ => 0) f
    simpa [C, S, Complex.ofReal] using this
  have hp : ∀ f, (⟨pr f, pi f⟩ : ℂ) = (starRingEnd ℂ) (∑ n ∈ range 4096, e (f * n) * (v n : ℂ)) * ∑ m ∈ range 4096, e (f * m) * (s m : ℂ) := by
    intro f
    rw [hv, hv, hr, hi]
    apply Complex.ext <;> simp <;> ring
  have key : ∑ f ∈ range 4096, e (l * f) * (⟨pr f, pi f⟩ : ℂ)
      = ((4096 * ∑ m ∈ range 4096, v ((l + m) % 4096) * s m : ℝ) : ℂ) := by
    have h1 : ∀ f, e (l * f) * (⟨pr f, pi f⟩ : ℂ)
        = ∑ m ∈ range 4096, ∑ n ∈ range 4096, ((v n : ℂ) * s m) * e (f * (l + m + (4096 - n))) := by
      intro f
      rw [hp, map_sum, Finset.sum_mul_sum, Finset.mul_sum]
      simp only [Finset.mul_sum]
      rw [Finset.sum_comm]
      refine Finset.sum_congr rfl fun m _ => Finset.sum_congr rfl fun n hn => ?_
      rw [map_mul, conj_e f n (Finset.mem_range.mp hn).le, Complex.conj_ofReal, Nat.mul_add, Nat.mul_add, e_add, e_add,
        mul_comm l f]
      ring
    simp only [h1]
    rw [Finset.sum_comm]
    push_cast
    rw [Finset.mul_sum]
    refine Finset.sum_congr rfl fun m _ => ?_
    rw [Finset.sum_comm, Finset.sum_eq_single ((l + m) % 4096)]
    · rw [← Finset.mul_sum, sum_e, if_pos (by omega)]; ring
    · intro n hn hne
      rw [← Finset.mul_sum, sum_e, if_neg, mul_zero]
      have := Finset.mem_range.mp hn
      omega
    · intro h; exact absurd (Finset.mem_range.mpr (Nat.mod_lt _ (by norm_num))) h
  have h := dft_mk pr pi l
  rw [key] at h
  have := congrArg Complex.re h
  simpa using this.symm

end Cert.Fourier

end
-- ==== Proof.Spectra.lean ====
/- With the tables of the 64th and 4096th turns, the fused kernel's passes are discrete Fourier transforms, and its result
   is a circular correlation. -/
module

public import proofs.«01_k».proof.Proof.Fft
public import proofs.«01_k».proof.Proof.Fourier

@[expose] public section

noncomputable section

namespace Cert.Spectra

open Cert.Up Cert.Fft Cert.Fourier Finset

/-! ### The four tables -/

/-- The cosines of 64ths of a turn. -/
def A (a b : ℕ) : ℝ := co (64 * (a * b))
/-- The negated sines of 64ths of a turn. -/
def B (a b : ℕ) : ℝ := -si (64 * (a * b))
/-- The cosines of the turns between the passes. -/
def T (a b : ℕ) : ℝ := co (a * b)
/-- Their negated sines. -/
def U (a b : ℕ) : ℝ := -si (a * b)

/-- Column `w` of a block. -/
def col (x : ℕ → ℕ → ℝ) (w : ℕ) : ℕ → ℝ := fun n => x n w

/-- The row of a flat lane number. -/
theorem div_add (b w : ℕ) (hw : w < 128) : (b * 128 + w) / 128 = b := by omega
/-- The lane of a flat lane number. -/
theorem mod_add (b w : ℕ) (hw : w < 128) : (b * 128 + w) % 128 = w := by omega

/-- The second pass over first-pass values `gr + i gi` of the signal `xr + i xi`. -/
theorem second (xr xi : ℕ → ℝ) (gr gi : ℕ → ℕ → ℕ → ℝ) (w : ℕ) (hw : w < 128)
    (hgr : ∀ a b, gr a b w = ∑ k ∈ range 64, A a k * xr (k * 64 + b) - ∑ k ∈ range 64, B a k * xi (k * 64 + b))
    (hgi : ∀ a b, gi a b w = ∑ k ∈ range 64, A a k * xi (k * 64 + b) + ∑ k ∈ range 64, B a k * xr (k * 64 + b)) (n : ℕ) :
    rrows (rsub (rmm A (hRe T U gr gi)) (rmm B (hIm T U gr gi))) n w = C xr n + S xi n
    ∧ rrows (radd (rmm A (hIm T U gr gi)) (rmm B (hRe T U gr gi))) n w = C xi n - S xr n := by
  have key := four_step_mk xr xi (n % 64) (n / 64) (fun b => gr (n % 64) b w) (fun b => gi (n % 64) b w)
    (fun b => co (n % 64 * b) * gr (n % 64) b w + si (n % 64 * b) * gi (n % 64) b w)
    (fun b => co (n % 64 * b) * gi (n % 64) b w - si (n % 64 * b) * gr (n % 64) b w)
    (fun b => by simp only [hgr, A, B, neg_mul, sum_neg_distrib, sub_neg_eq_add])
    (fun b => by simp only [hgi, A, B, neg_mul, sum_neg_distrib, ← sub_eq_add_neg]) (fun _ => rfl) (fun _ => rfl)
  rw [show n / 64 * 64 + n % 64 = n by omega] at key
  rw [← key.1, ← key.2]
  simp only [rrows, rsub, radd, rmm, hRe, hIm, rflat, rswap, rsub3, radd3, rmul3, rbc, div_add _ _ hw, mod_add _ _ hw, A, B, T, U,
    neg_mul, sum_neg_distrib, sub_neg_eq_add]
  constructor
  · congr 1 <;> refine sum_congr rfl fun b _ => ?_ <;> ring
  · rw [sub_eq_add_neg, ← sum_neg_distrib, ← sum_neg_distrib]
    congr 1 <;> refine sum_congr rfl fun b _ => ?_ <;> ring

/-- The first pass, column by column. -/
theorem first (M x : ℕ → ℕ → ℝ) (a b w : ℕ) (hw : w < 128) :
    rmm M (rcols x) a (b * 128 + w) = ∑ k ∈ range 64, M a k * col x w (k * 64 + b) := by
  simp only [rmm, rcols, div_add _ _ hw, mod_add _ _ hw, col]

/-- The cosine sum of the zero signal. -/
theorem C_zero (n : ℕ) : C (fun _ => 0) n = 0 := by simp [C]
/-- The sine sum of the zero signal. -/
theorem S_zero (n : ℕ) : S (fun _ => 0) n = 0 := by simp [S]

/-- The two-pass transform of a real block has the cosine sum and the negated sine sum of each column as its parts. -/
theorem real_block (x : ℕ → ℕ → ℝ) (n w : ℕ) (hw : w < 128) :
    oRe A B T U x n w = C (col x w) n ∧ oIm A B T U x n w = -S (col x w) n := by
  have h := second (col x w) (fun _ => 0) (g1 A x) (g1 B x) w hw
    (fun a b => by simp only [g1, runflat, first _ _ _ _ _ hw, mul_zero, sum_const_zero, sub_zero])
    (fun a b => by simp only [g1, runflat, first _ _ _ _ _ hw, mul_zero, sum_const_zero, zero_add]) n
  rw [C_zero, S_zero, add_zero, zero_sub] at h
  exact h

/-- **The body's correlation.** -/
theorem corr_eq (x y : ℕ → ℕ → ℝ) (l w : ℕ) (hw : w < 128) :
    corr A B T U x y l w = ∑ m ∈ range 4096, x ((l + m) % 4096) w * y m w := by
  have h := (second (col (pRe A B T U x y) w) (col (pIm A B T U x y) w)
    (gRe A B (pRe A B T U x y) (pIm A B T U x y)) (gIm A B (pRe A B T U x y) (pIm A B T U x y)) w hw
    (fun a b => by simp only [gRe, runflat, rsub, first _ _ _ _ _ hw])
    (fun a b => by simp only [gIm, runflat, radd, first _ _ _ _ _ hw]) l).1
  have hc := correlation (col x w) (col y w) l (col (pRe A B T U x y) w) (col (pIm A B T U x y) w)
    (fun f => by simp only [col, pRe, radd, rmul, (real_block x f w hw).1, (real_block x f w hw).2, (real_block y f w hw).1, (real_block y f w hw).2]; ring)
    (fun f => by simp only [col, pIm, rsub, rmul, (real_block x f w hw).1, (real_block x f w hw).2, (real_block y f w hw).1, (real_block y f w hw).2]; ring)
  rw [hc] at h
  show rrows _ l w * (1 / 4096) = _
  rw [cRe, cIm, h]
  simp only [col]
  ring

end Cert.Spectra

end
-- ==== Proof.Column.lean ====
/- The mathematics of one channel: the circular correlation of two real sequences of length 4096, its sixteen largest
   elements, their softmax, and the sum of the shifts of a third sequence, so weighted. The fused kernel computes it in
   every column of a block. -/
module

public import proofs.«01_k».proof.Proof.Chosen
public import proofs.«01_k».proof.Proof.Spectra

@[expose] public section

noncomputable section

namespace Cert.Column

open Idealize.ShloMosaic Idealize.ShloMosaic.ValueIdx Cert.KernelIdeal Cert.KernelIdeal.Gen Cert.Up Cert.Fft Finset

section
variable (q k v : ℕ → ℝ)

/-- The correlation at lag `l`. -/
def rx (l : ℕ) : ℝ := ∑ m ∈ range 4096, q ((l + m) % 4096) * k m
/-- The lag of the `j`-th largest correlation, ties to the lesser lag. -/
def lag (j : ℕ) : ℕ := Select.I (fun n => (rx q k n : EReal)) j
/-- Its softmax weight. -/
def wt (j : ℕ) : ℝ := Real.exp (rx q k (lag q k j) - rx q k (lag q k 0)) / ∑ u ∈ range 16, Real.exp (rx q k (lag q k u) - rx q k (lag q k 0))
/-- The result at position `l`. -/
def res (l : ℕ) : ℝ := ∑ j ∈ range 16, wt q k j * v ((l + lag q k j) % 4096)

/-- A lag taken is a position. -/
theorem lag_lt (j : ℕ) (hj : j < 4096) : lag q k j < 4096 := (Select.round (rx q k) j hj).1
end

/-- The body's result, column by column. -/
theorem corr_res (q k v : ℕ → ℕ → ℝ) (l w : ℕ) (hw : w < 128) :
    corr Spectra.A Spectra.B Spectra.T Spectra.U v (Chosen.spread (corr Spectra.A Spectra.B Spectra.T Spectra.U q k)) l w
      = res (fun n => q n w) (fun n => k n w) (fun n => v n w) l := by
  have hr : ∀ n, corr Spectra.A Spectra.B Spectra.T Spectra.U q k n w = rx (fun n => q n w) (fun n => k n w) n :=
    fun n => Spectra.corr_eq q k n w hw
  have hrow : ∀ j, Chosen.row (corr Spectra.A Spectra.B Spectra.T Spectra.U q k) w j = lag (fun n => q n w) (fun n => k n w) j := fun j => by
    simp only [Chosen.row, lag, hr]
  have hwt : ∀ j, Chosen.weight (corr Spectra.A Spectra.B Spectra.T Spectra.U q k) j w = wt (fun n => q n w) (fun n => k n w) j := fun j => by
    simp only [Chosen.weight, wt, hrow, hr]
  rw [Spectra.corr_eq _ _ l w hw]
  simp only [Chosen.spread, hrow, hwt, mul_sum]
  rw [sum_comm, res]
  refine sum_congr rfl fun j hj => ?_
  have hl := lag_lt (fun n => q n w) (fun n => k n w) j (by have := mem_range.1 hj; omega)
  rw [sum_eq_single (lag (fun n => q n w) (fun n => k n w) j)]
  · rw [if_pos rfl]; ring
  · intro m _ hm; rw [if_neg hm, mul_zero]
  · intro h; exact absurd (mem_range.2 hl) h

/-- The fused kernel's result block. -/
theorem block (q k v : ℕ → ℕ → ℝ) :
    out3_7 (F := Ideal) (t Spectra.A) (t Spectra.B) (t Spectra.T) (t Spectra.U) (b q) (b k) (b v)
      = b (fun l w => res (fun n => q n w) (fun n => k n w) (fun n => v n w) l) := by
  rw [Fft.out _ _ _ _ q k v _ (Chosen.weights _ _ _ _ q k v)]
  funext i
  exact congrArg ((↑) : ℝ → EReal) (corr_res q k v _ _ (i 2).isLt)

end Cert.Column

end
-- ==== Proof.Blocks.lean ====
/- The arrays that the four regions leave, over real entry contents: a projection's blocks of 512 rows, and the fused
   region's blocks of 128 channels. -/
module

public import proofs.«01_k».proof.Proof.Column
public import proofs.«01_k».proof.Proof.Gen.KernelIdeal.Frame
public import Idealize.ShloMosaic.Lib.Pipeline.ValueKit
public import Idealize.ShloMosaic.PureOps.Ideal.Laws

@[expose] public section

set_option maxRecDepth 16384

noncomputable section

namespace Cert.Blocks

open Idealize.ShloMosaic Idealize.ShloMosaic.TcCoe Cert.KernelIdeal Cert.KernelIdeal.Gen Cert.Up Finset

/-- A projection: every row against the weights, and the bias. -/
def proj (x : ℕ → ℕ → ℕ → ℝ) (W : ℕ → ℕ → ℝ) (B : ℕ → ℝ) (b n d : ℕ) : ℝ := (∑ k ∈ range 1024, x b n k * W k d) + B d

/-! ### The projection's block -/

/-- A block of 512 rows without its unit axis. -/
theorem dropX (X : ℕ → ℕ → ℕ → ℝ) (h : S1x512x1024.ShapeCasts S512x1024) :
    shapeCast S512x1024 (up3 X : FVec Ideal S1x512x1024 .f32) h = up2 (X 0) := by
  funext j
  rw [ValueIdx.eq_ix2 j]
  exact (ValueIdx.shapeCast_1ab_ab_apply (a := 512) (b := 1024) _ h _ _).trans rfl

/-- A block of 512 rows given its unit axis back. -/
theorem addX (X : ℕ → ℕ → ℝ) (h : S512x1024.ShapeCasts S1x512x1024) :
    shapeCast S1x512x1024 (up2 X : FVec Ideal S512x1024 .f32) h = up3 (fun _ => X) := by
  funext j
  rw [ValueIdx.eq_ix3 j]
  exact (ValueIdx.shapeCast_ab_1ab_apply (a := 512) (b := 1024) _ h _ _ _).trans rfl

/-- The bias row as every row of a block. -/
theorem biasRows (B : ℕ → ℕ → ℝ) (h : S1x1024.ShapeCasts S1x1024) (h' : S1x1024.Broadcasts S512x1024) :
    broadcastTo S512x1024 (shapeCast S1x1024 (up2 B : FVec Ideal S1x1024 .f32) h) h' = up2 (fun _ => B 0) := by
  have : shapeCast S1x1024 (up2 B : FVec Ideal S1x1024 .f32) h = up2 B := by funext i; rw [shapeCast, Shape.reshapeEquiv_self]
  rw [this]
  rfl

/-- The product of 512 rows with a weight matrix. -/
theorem mulX (X W : ℕ → ℕ → ℝ) :
    matmul dot_S512x1024_S1024x1024_S512x1024_1_0_0_1_n_n none (up2 X : FVec Ideal S512x1024 .f32) (up2 W : FVec Ideal S1024x1024 .f32)
      (constant S512x1024 .f32 0x00000000#32) = up2 (fun n d => ∑ k ∈ range 1024, X n k * W k d) := by
  have hz : (constant S512x1024 .f32 0x00000000#32 : FVec Ideal S512x1024 .f32) = up2 rz := by
    funext i
    show Ideal.ofBits .f32 0x00000000#32 = ((0 : ℝ) : EReal)
    simp [Ideal.ofBits, Ideal.ieee]
  rw [hz]
  funext j
  rw [ValueIdx.eq_ix2 j]
  refine (Ideal.matmul_plain_apply (M := 512) (K := 1024) (N := 1024) none _ _ _ _ _).trans ?_
  simp only [up2, ValueIdx.ix2_0, ValueIdx.ix2_1, rz, EReal.coe_zero, zero_add]
  rw [coe_sum, Finset.sum_range]
  exact Finset.sum_congr rfl fun k _ => (EReal.coe_mul _ _).symm

/-- The value that a projection's body stores: its rows times the weights, plus the bias. -/
theorem pay (X : ℕ → ℕ → ℕ → ℝ) (W B : ℕ → ℕ → ℝ) :
    k0_pay1 (F := Ideal) (up3 (φ := .f32) X) (up2 (φ := .f32) W) (up2 (φ := .f32) B) = up3 (φ := .f32) (fun _ n d => (∑ k ∈ range 1024, X 0 n k * W k d) + B 0 d) := by
  simp only [k0_pay1, dropX, biasRows, mulX, addf_up, addX]
  rfl

/-- A projection's output block from its input blocks. -/
theorem out0 (X : ℕ → ℕ → ℕ → ℝ) (W B : ℕ → ℕ → ℝ) :
    out0_3 (F := Ideal) (up3 (φ := .f32) X) (up2 (φ := .f32) W) (up2 (φ := .f32) B) = up3 (φ := .f32) (fun _ n d => (∑ k ∈ range 1024, X 0 n k * W k d) + B 0 d) := by
  rw [out0_3, View.canon_unit_zero (by funext a; fin_cases a <;> rfl), View.ld_unit_zero (by funext a; fin_cases a <;> rfl),
    View.ld_unit_zero (by funext a; fin_cases a <;> rfl), View.ld_unit_zero (by funext a; fin_cases a <;> rfl)]
  exact pay X W B

variable (V : (c : Dev nD) → (b : Ref sig .tc) → Buf (Elt Ideal) ((c : Thread nD τ).loc b))

/-- Region 0's blocks in place. -/
theorem idx0 : ∀ t : Fin grid0.N, win0_0.index t = ![(grid0.coords t 0).val, (grid0.coords t 1).val, 0] ∧ win0_1.index t = ![0, 0]
    ∧ win0_2.index t = ![0, 0] ∧ win0_3.index t = ![(grid0.coords t 0).val, (grid0.coords t 1).val, 0] := by decide +kernel

/-- Region 0 leaves the first projection. -/
theorem proj0 (c : Dev nD) (x : ℕ → ℕ → ℕ → ℝ) (W : ℕ → ℕ → ℝ) (B : ℕ → ℝ)
    (hx : V c main_arg0 = (up3 x : FVec Ideal S2x4096x1024 .f32)) (hW : V c main_arg3 = (up2 W : FVec Ideal S1024x1024 .f32))
    (hB : V c main_v0 = (up2 (fun _ => B) : FVec Ideal S1x1024 .f32)) :
    (dat0 (F := Ideal) V c).arrAt 3 cfg0.N = (up3 (proj x W B) : FVec Ideal S2x4096x1024 .f32) := by
  refine (dat0 (F := Ideal) V c).arrAt_eq_of_covers 3 _ (by decide +kernel) fun t hf y => ?_
  blk_simp
  rw [after0_3]
  obtain ⟨e0, e1, e2, e3⟩ := idx0 t
  have h0 : iblk0 (F := Ideal) V c 0 t = (up3 (fun a n k => x ((grid0.coords t 0).val + a) ((grid0.coords t 1).val * 512 + n) k) : FVec Ideal S1x512x1024 .f32) := by
    funext j
    blk_simp [iblk0]
    rw [hx]
    simp only [up3]
    blk_simp [e0]
  have h1 : iblk0 (F := Ideal) V c 1 t = (up2 W : FVec Ideal S1024x1024 .f32) := by
    funext j
    blk_simp [iblk0]
    rw [hW]
    simp only [up2]
    blk_simp [e1]
  have h2 : iblk0 (F := Ideal) V c 2 t = (up2 (fun _ => B) : FVec Ideal S1x1024 .f32) := by
    funext j
    blk_simp [iblk0]
    rw [hB]
    simp only [up2]
    blk_simp [e2]
  rw [h0, h1, h2, out0]
  simp only [up3, proj]
  blk_simp [e3]

/-- Region 1's blocks in place. -/
theorem idx1 : ∀ t : Fin grid1.N, win1_0.index t = ![(grid1.coords t 0).val, (grid1.coords t 1).val, 0] ∧ win1_1.index t = ![0, 0]
    ∧ win1_2.index t = ![0, 0] ∧ win1_3.index t = ![(grid1.coords t 0).val, (grid1.coords t 1).val, 0] := by decide +kernel

/-- Region 1 leaves the second projection. -/
theorem proj1 (c : Dev nD) (x : ℕ → ℕ → ℕ → ℝ) (W : ℕ → ℕ → ℝ) (B : ℕ → ℝ)
    (hx : V c main_arg1 = (up3 x : FVec Ideal S2x4096x1024 .f32)) (hW : V c main_arg5 = (up2 W : FVec Ideal S1024x1024 .f32))
    (hB : V c main_v2 = (up2 (fun _ => B) : FVec Ideal S1x1024 .f32)) :
    (dat1 (F := Ideal) V c).arrAt 3 cfg1.N = (up3 (proj x W B) : FVec Ideal S2x4096x1024 .f32) := by
  refine (dat1 (F := Ideal) V c).arrAt_eq_of_covers 3 _ (by decide +kernel) fun t hf y => ?_
  blk_simp
  rw [after1_3]
  obtain ⟨e0, e1, e2, e3⟩ := idx1 t
  have h0 : iblk1 (F := Ideal) V c 0 t = (up3 (fun a n k => x ((grid1.coords t 0).val + a) ((grid1.coords t 1).val * 512 + n) k) : FVec Ideal S1x512x1024 .f32) := by
    funext j
    blk_simp [iblk1]
    rw [hx]
    simp only [up3]
    blk_simp [e0]
  have h1 : iblk1 (F := Ideal) V c 1 t = (up2 W : FVec Ideal S1024x1024 .f32) := by
    funext j
    blk_simp [iblk1]
    rw [hW]
    simp only [up2]
    blk_simp [e1]
  have h2 : iblk1 (F := Ideal) V c 2 t = (up2 (fun _ => B) : FVec Ideal S1x1024 .f32) := by
    funext j
    blk_simp [iblk1]
    rw [hB]
    simp only [up2]
    blk_simp [e2]
  rw [h0, h1, h2, show out1_3 (F := Ideal) = out0_3 from rfl, out0]
  simp only [up3, proj]
  blk_simp [e3]

/-- Region 2's blocks in place. -/
theorem idx2 : ∀ t : Fin grid2.N, win2_0.index t = ![(grid2.coords t 0).val, (grid2.coords t 1).val, 0] ∧ win2_1.index t = ![0, 0]
    ∧ win2_2.index t = ![0, 0] ∧ win2_3.index t = ![(grid2.coords t 0).val, (grid2.coords t 1).val, 0] := by decide +kernel

/-- Region 2 leaves the third projection. -/
theorem proj2 (c : Dev nD) (x : ℕ → ℕ → ℕ → ℝ) (W : ℕ → ℕ → ℝ) (B : ℕ → ℝ)
    (hx : V c main_arg2 = (up3 x : FVec Ideal S2x4096x1024 .f32)) (hW : V c main_arg7 = (up2 W : FVec Ideal S1024x1024 .f32))
    (hB : V c main_v4 = (up2 (fun _ => B) : FVec Ideal S1x1024 .f32)) :
    (dat2 (F := Ideal) V c).arrAt 3 cfg2.N = (up3 (proj x W B) : FVec Ideal S2x4096x1024 .f32) := by
  refine (dat2 (F := Ideal) V c).arrAt_eq_of_covers 3 _ (by decide +kernel) fun t hf y => ?_
  blk_simp
  rw [after2_3]
  obtain ⟨e0, e1, e2, e3⟩ := idx2 t
  have h0 : iblk2 (F := Ideal) V c 0 t = (up3 (fun a n k => x ((grid2.coords t 0).val + a) ((grid2.coords t 1).val * 512 + n) k) : FVec Ideal S1x512x1024 .f32) := by
    funext j
    blk_simp [iblk2]
    rw [hx]
    simp only [up3]
    blk_simp [e0]
  have h1 : iblk2 (F := Ideal) V c 1 t = (up2 W : FVec Ideal S1024x1024 .f32) := by
    funext j
    blk_simp [iblk2]
    rw [hW]
    simp only [up2]
    blk_simp [e1]
  have h2 : iblk2 (F := Ideal) V c 2 t = (up2 (fun _ => B) : FVec Ideal S1x1024 .f32) := by
    funext j
    blk_simp [iblk2]
    rw [hB]
    simp only [up2]
    blk_simp [e2]
  rw [h0, h1, h2, show out2_3 (F := Ideal) = out0_3 from rfl, out0]
  simp only [up3, proj]
  blk_simp [e3]

/-- The fused region's blocks in place. -/
theorem idx3 : ∀ t : Fin grid3.N, win3_0.index t = ![0, 0] ∧ win3_1.index t = ![0, 0] ∧ win3_2.index t = ![0, 0] ∧ win3_3.index t = ![0, 0]
    ∧ win3_4.index t = ![(grid3.coords t 0).val, 0, (grid3.coords t 1).val] ∧ win3_5.index t = ![(grid3.coords t 0).val, 0, (grid3.coords t 1).val]
    ∧ win3_6.index t = ![(grid3.coords t 0).val, 0, (grid3.coords t 1).val] ∧ win3_7.index t = ![(grid3.coords t 0).val, 0, (grid3.coords t 1).val] := by
  decide +kernel

/-- The fused region leaves every channel's result. -/
theorem fused (c : Dev nD) (q k v : ℕ → ℕ → ℕ → ℝ)
    (hA : V c main_v23 = Fft.t Spectra.A) (hB : V c main_v25 = Fft.t Spectra.B) (hT : V c main_v26 = Fft.t Spectra.T) (hU : V c main_v28 = Fft.t Spectra.U)
    (hq : V c main_v1 = (up3 q : FVec Ideal S2x4096x1024 .f32)) (hk : V c main_v3 = (up3 k : FVec Ideal S2x4096x1024 .f32))
    (hv : V c main_v5 = (up3 v : FVec Ideal S2x4096x1024 .f32)) :
    (dat3 (F := Ideal) V c).arrAt 7 cfg3.N
      = (up3 (fun a l d => Column.res (fun n => q a n d) (fun n => k a n d) (fun n => v a n d) l) : FVec Ideal S2x4096x1024 .f32) := by
  refine (dat3 (F := Ideal) V c).arrAt_eq_of_covers 7 _ (by decide +kernel) fun t hf y => ?_
  blk_simp
  rw [after3_7]
  obtain ⟨e0, e1, e2, e3, e4, e5, e6, e7⟩ := idx3 t
  have h0 : iblk3 (F := Ideal) V c 0 t = Fft.t Spectra.A := by
    funext j; blk_simp [iblk3]; rw [hA]; simp only [Fft.t, up2]; blk_simp [e0]
  have h1 : iblk3 (F := Ideal) V c 1 t = Fft.t Spectra.B := by
    funext j; blk_simp [iblk3]; rw [hB]; simp only [Fft.t, up2]; blk_simp [e1]
  have h2 : iblk3 (F := Ideal) V c 2 t = Fft.t Spectra.T := by
    funext j; blk_simp [iblk3]; rw [hT]; simp only [Fft.t, up2]; blk_simp [e2]
  have h3 : iblk3 (F := Ideal) V c 3 t = Fft.t Spectra.U := by
    funext j; blk_simp [iblk3]; rw [hU]; simp only [Fft.t, up2]; blk_simp [e3]
  have h4 : iblk3 (F := Ideal) V c 4 t = Fft.b (fun n w => q (grid3.coords t 0).val n ((grid3.coords t 1).val * 128 + w)) := by
    funext j; blk_simp [iblk3]; rw [hq]; simp only [Fft.b, up3]; blk_simp [e4]
  have h5 : iblk3 (F := Ideal) V c 5 t = Fft.b (fun n w => k (grid3.coords t 0).val n ((grid3.coords t 1).val * 128 + w)) := by
    funext j; blk_simp [iblk3]; rw [hk]; simp only [Fft.b, up3]; blk_simp [e5]
  have h6 : iblk3 (F := Ideal) V c 6 t = Fft.b (fun n w => v (grid3.coords t 0).val n ((grid3.coords t 1).val * 128 + w)) := by
    funext j; blk_simp [iblk3]; rw [hv]; simp only [Fft.b, up3]; blk_simp [e6]
  rw [h0, h1, h2, h3, h4, h5, h6, Column.block]
  simp only [Fft.b, up3]
  blk_simp [e7]

end Cert.Blocks

end
-- ==== Proof.Tables.lean ====
/- The four tables that the host computes for the fused kernel: cosines and sines of whole turns, as the real tables of
   the transforms. -/
module

public import proofs.«01_k».proof.Proof.Blocks
public import Idealize.ShloMosaic.Lib.StableHlo.ReadAt

@[expose] public section

set_option maxRecDepth 16384

noncomputable section

namespace Cert.Tables

open Idealize.ShloMosaic Idealize.ShloMosaic.TcCoe Cert.KernelIdeal Cert.KernelIdeal.Gen Cert.Up Finset

/-- The arc cosine of minus one, scaled by a word. -/
theorem pi_scale (w : BitVec 32) (s : ℝ) (hw : Ideal.ofBits .f32 w = (s : EReal)) :
    mulf (Host.acos (constant S_ .f32 0xBF800000#32 : FVec Ideal S_ .f32)) (constant S_ .f32 w) = fun _ => ((Real.pi * s : ℝ) : EReal) := by
  have h1 : Ideal.ofBits .f32 0xBF800000#32 = ((-1 : ℝ) : EReal) := by
    simp [Ideal.ofBits, Ideal.ieee]; rw [← EReal.coe_mul]; norm_num
  funext i
  show Ideal.acos (Ideal.ofBits .f32 0xBF800000#32) * Ideal.ofBits .f32 w = _
  rw [h1, hw]
  show (if -1 ≤ (-1 : ℝ) ∧ (-1 : ℝ) ≤ 1 then (Real.arccos (-1) : EReal) else ⊥) * (s : EReal) = _
  rw [if_pos (by norm_num), Real.arccos_neg_one, EReal.coe_mul]

/-- The word of `1/32`. -/
theorem w32 : Ideal.ofBits .f32 0x3D000000#32 = ((1 / 32 : ℝ) : EReal) := by
  simp [Ideal.ofBits, Ideal.ieee]; rw [← EReal.coe_mul]; norm_num
/-- The word of `1/2048`. -/
theorem w2048 : Ideal.ofBits .f32 0x3A000000#32 = ((1 / 2048 : ℝ) : EReal) := by
  simp [Ideal.ofBits, Ideal.ieee]; rw [← EReal.coe_mul]; norm_num

/-- The products of a row number and a column number. -/
abbrev rc : IVec S64x64 32 := muli
  (broadcastInDim S64x64 ![0, 1] bcast_S64x1_S64x64_0_1 (broadcastInDim S64x1 ![0] bcast_S64_S64x1_0 (iotaInDim S64 32 0)))
  (broadcastInDim S64x64 ![0, 1] bcast_S1x64_S64x64_0_1 (broadcastInDim S1x64 ![1] bcast_S64_S1x64_1 (iotaInDim S64 32 0)))

/-- Such a product's word. -/
theorem rc_apply (i : S64x64.Idx) : rc i = BitVec.ofNat 32 ((i 0).val * (i 1).val) := by
  show BitVec.ofNat 32 (i 0).val * BitVec.ofNat 32 (i 1).val = _
  rw [← BitVec.ofNat_mul]

/-- A small word read as an integer. -/
theorem toInt_ofNat (a : ℕ) (ha : a < 2 ^ 31) : (BitVec.ofNat 32 a).toInt = a := by
  have h : (BitVec.ofNat 32 a).toNat = a := by rw [BitVec.toNat_ofNat]; omega
  rw [BitVec.toInt_eq_toNat_of_lt (by rw [h]; omega), h]

/-- Such a product is below 4096. -/
theorem rc_lt (i : S64x64.Idx) : (i 0).val * (i 1).val < 4096 := by
  have h0 : (i 0).val < 64 := (i 0).isLt
  have h1 : (i 1).val < 64 := (i 1).isLt
  nlinarith

/-- The product up to multiples of 64. -/
theorem rc_mod (i : S64x64.Idx) : andi rc (broadcastInDim S64x64 ![] bcast_S_S64x64 (constantI S_ 32 63#32)) i = BitVec.ofNat 32 ((i 0).val * (i 1).val % 64) := by
  show rc i &&& 63#32 = _
  rw [rc_apply]
  apply BitVec.eq_of_toNat_eq
  have := rc_lt i
  rw [BitVec.toNat_and, BitVec.toNat_ofNat, BitVec.toNat_ofNat, BitVec.toNat_ofNat,
    Nat.mod_eq_of_lt (show (i 0).val * (i 1).val < 2 ^ 32 by omega), show 63 % 2 ^ 32 = 2 ^ 6 - 1 by rfl, Nat.and_two_pow_sub_one_eq_mod]
  exact (Nat.mod_eq_of_lt (by omega)).symm

/-- A whole number of turns, as an angle. -/
theorem angle (n : IVec S64x64 32) (f : ℕ → ℕ → ℕ) (hn : ∀ i, n i = BitVec.ofNat 32 (f (i 0).val (i 1).val)) (hf : ∀ i : S64x64.Idx, f (i 0).val (i 1).val < 4096)
    (w : BitVec 32) (s : ℝ) (hw : Ideal.ofBits .f32 w = (s : EReal)) :
    mulf (sitofp .f32 n : FVec Ideal S64x64 .f32) (broadcastInDim S64x64 ![] bcast_S_S64x64
      (mulf (Host.acos (constant S_ .f32 0xBF800000#32 : FVec Ideal S_ .f32)) (constant S_ .f32 w))) = up2 (fun a b => f a b * (Real.pi * s)) := by
  rw [pi_scale w s hw]
  funext i
  show (((n i).toInt : ℝ) : EReal) * ((Real.pi * s : ℝ) : EReal) = ((f (i 0).val (i 1).val * (Real.pi * s) : ℝ) : EReal)
  rw [hn, toInt_ofNat _ (by have := hf i; omega), EReal.coe_mul]
  rfl

/-- The cosine on reals. -/
theorem cos_up (X : ℕ → ℕ → ℝ) : Host.cos (up2 X : FVec Ideal S64x64 .f32) = up2 (fun a b => Real.cos (X a b)) := rfl
/-- The sine on reals. -/
theorem sin_up (X : ℕ → ℕ → ℝ) : Host.sin (up2 X : FVec Ideal S64x64 .f32) = up2 (fun a b => Real.sin (X a b)) := rfl
/-- The negation on reals. -/
theorem neg_up (X : ℕ → ℕ → ℝ) : Host.negf (up2 X : FVec Ideal S64x64 .f32) = up2 (fun a b => -X a b) := rfl

/-- 64ths of a turn as 4096ths. -/
theorem turn64 (n : ℕ) : ((n % 64 : ℕ) : ℝ) * (Real.pi * (1 / 32)) = 2 * Real.pi * ((64 * n % 4096 : ℕ) : ℝ) / 4096 := by
  rw [show 64 * n % 4096 = 64 * (n % 64) by omega]; push_cast; ring
/-- 4096ths of a turn. -/
theorem turn4096 (n : ℕ) : (n : ℝ) * (Real.pi * (1 / 2048)) = 2 * Real.pi * (n : ℝ) / 4096 := by ring

/-- The angles of the passes' tables. -/
theorem angle64 : mulf (sitofp .f32 (andi rc (broadcastInDim S64x64 ![] bcast_S_S64x64 (constantI S_ 32 63#32))) : FVec Ideal S64x64 .f32)
    (broadcastInDim S64x64 ![] bcast_S_S64x64 (mulf (Host.acos (constant S_ .f32 0xBF800000#32 : FVec Ideal S_ .f32)) (constant S_ .f32 0x3D000000#32)))
      = up2 (fun a b => 2 * Real.pi * ((64 * (a * b) % 4096 : ℕ) : ℝ) / 4096) := by
  rw [angle _ (fun a b => a * b % 64) rc_mod (fun i => by have := Nat.mod_lt ((i 0).val * (i 1).val) (show 64 > 0 by omega); omega) _ _ w32]
  simp only [turn64]

/-- The angles between the passes. -/
theorem angle4096 : mulf (sitofp .f32 rc : FVec Ideal S64x64 .f32)
    (broadcastInDim S64x64 ![] bcast_S_S64x64 (mulf (Host.acos (constant S_ .f32 0xBF800000#32 : FVec Ideal S_ .f32)) (constant S_ .f32 0x3A000000#32)))
      = up2 (fun a b => 2 * Real.pi * ((a * b : ℕ) : ℝ) / 4096) := by
  rw [angle _ (fun a b => a * b) rc_apply rc_lt _ _ w2048]
  simp only [turn4096]

variable (X : Valuation τ sig (Elt Ideal))

/-- The host's first table is `A`. -/
theorem v23 : StableHlo.after hostOps3 X (Proc.devRef .tc main_v23) = Fft.t Spectra.A := by
  unfold hostOps3
  after_reads_simp
  rw [angle64, cos_up]
  rw [show Spectra.A = fun a b => Fourier.co (64 * (a * b) % 4096) from funext₂ fun a b => (Fourier.co_mod _).symm]
  rfl

/-- The host's second table is `B`. -/
theorem v25 : StableHlo.after hostOps3 X (Proc.devRef .tc main_v25) = Fft.t Spectra.B := by
  unfold hostOps3
  after_reads_simp
  rw [angle64, sin_up, neg_up]
  rw [show Spectra.B = fun a b => -Fourier.si (64 * (a * b) % 4096) from funext₂ fun a b => congrArg Neg.neg (Fourier.si_mod _).symm]
  rfl

/-- The host's third table is `T`. -/
theorem v26 : StableHlo.after hostOps3 X (Proc.devRef .tc main_v26) = Fft.t Spectra.T := by
  unfold hostOps3
  after_reads_simp
  rw [angle4096, cos_up]
  rfl

/-- The host's fourth table is `U`. -/
theorem v28 : StableHlo.after hostOps3 X (Proc.devRef .tc main_v28) = Fft.t Spectra.U := by
  unfold hostOps3
  after_reads_simp
  rw [angle4096, sin_up, neg_up]
  rfl

end Cert.Tables

end
-- ==== Proof.KernelRun.lean ====
/- The kernel's run with its result: the launch over the segments, and the last boundary read back through the four
   regions to the arguments. -/
module

public import proofs.«01_k».proof.Proof.Tables

@[expose] public section

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Up

local notation "𝕄" => MT nD τ sig Unit (Elt Ideal) ℕ (UR sig nD τ) ℕ

variable (m : (l : Loc nD τ sig) → Buf (Elt Ideal) l) (ρ : Dev nD → PrngReg)

set_option backward.isDefEq.respectTransparency.types false in
/-- From any memory the kernel ends with its result at the last boundary's and its arguments as launched. -/
theorem run : θ_run defs (onTc (τ := τ) (main (F := Ideal))) ⟨m, fun _ => 0, ρ⟩ (fun r => ∀ c : Dev nD,
      r.2.mem ((c.tc : Thread nD τ).loc main_v29) = W8 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c => ⟨h c _ (mem_uc main_v29 (by decide)),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c)⟩)

/-! ### The boundaries at the operands of the fused region -/

/-- A bias vector as a row. -/
theorem bias (B : ℕ → ℝ) (h : S1024.ShapeCasts S1x1024) : shapeCast S1x1024 (up1 (φ := .f32) B : FVec Ideal S1024 .f32) h = up2 (fun _ => B) := by
  funext j
  refine (shapeCast_apply _ h j (ValueIdx.ix1 (n := 1024) (j 1)) ?_).trans rfl
  rw [Shape.rowMajor_val_one, Shape.rowMajor_val_two]
  have h0 : (j 0).val < 1 := (j 0).isLt
  show (j 1).val = (j 0).val * 1024 + (j 1).val
  omega

variable (c : Dev nD) (x0 x1 x2 : ℕ → ℕ → ℕ → ℝ) (w0 w1 w2 : ℕ → ℕ → ℝ) (b0 b1 b2 : ℕ → ℝ)

/-- The first projection, where its region ends. -/
theorem left0 (hx : m ((c.tc : Thread nD τ).loc main_arg0) = (up3 x0 : FVec Ideal S2x4096x1024 .f32))
    (hw : m ((c.tc : Thread nD τ).loc main_arg3) = (up2 w0 : FVec Ideal S1024x1024 .f32)) (hb : m ((c.tc : Thread nD τ).loc main_arg4) = (up1 b0 : FVec Ideal S1024 .f32)) :
    W2 m ρ c (Proc.devRef .tc main_v1) = (up3 (Blocks.proj x0 w0 b0) : FVec Ideal S2x4096x1024 .f32) := by
  refine (W2_arr m ρ c 3).trans (Blocks.proj0 _ c _ _ _ ((W1_args m ρ c _ (by decide)).trans hx) ((W1_args m ρ c _ (by decide)).trans hw) ?_)
  show StableHlo.after hostOps0 (W0 m ρ c) (Proc.devRef .tc main_v0) = _
  have hb' := (W0_args m ρ c main_arg4 (by decide)).trans hb
  unfold hostOps0
  after_reads_simp
  rw [hb']
  exact bias _ _

/-- The second projection, where its region ends. -/
theorem left1 (hx : m ((c.tc : Thread nD τ).loc main_arg1) = (up3 x1 : FVec Ideal S2x4096x1024 .f32))
    (hw : m ((c.tc : Thread nD τ).loc main_arg5) = (up2 w1 : FVec Ideal S1024x1024 .f32)) (hb : m ((c.tc : Thread nD τ).loc main_arg6) = (up1 b1 : FVec Ideal S1024 .f32)) :
    W4 m ρ c (Proc.devRef .tc main_v3) = (up3 (Blocks.proj x1 w1 b1) : FVec Ideal S2x4096x1024 .f32) := by
  refine (W4_arr m ρ c 3).trans (Blocks.proj1 _ c _ _ _ ((W3_args m ρ c _ (by decide)).trans hx) ((W3_args m ρ c _ (by decide)).trans hw) ?_)
  show StableHlo.after hostOps1 (W2 m ρ c) (Proc.devRef .tc main_v2) = _
  have hb' := (W2_args m ρ c main_arg6 (by decide)).trans hb
  unfold hostOps1
  after_reads_simp
  rw [hb']
  exact bias _ _

/-- The third projection, where its region ends. -/
theorem left2 (hx : m ((c.tc : Thread nD τ).loc main_arg2) = (up3 x2 : FVec Ideal S2x4096x1024 .f32))
    (hw : m ((c.tc : Thread nD τ).loc main_arg7) = (up2 w2 : FVec Ideal S1024x1024 .f32)) (hb : m ((c.tc : Thread nD τ).loc main_arg8) = (up1 b2 : FVec Ideal S1024 .f32)) :
    W6 m ρ c (Proc.devRef .tc main_v5) = (up3 (Blocks.proj x2 w2 b2) : FVec Ideal S2x4096x1024 .f32) := by
  refine (W6_arr m ρ c 3).trans (Blocks.proj2 _ c _ _ _ ((W5_args m ρ c _ (by decide)).trans hx) ((W5_args m ρ c _ (by decide)).trans hw) ?_)
  show StableHlo.after hostOps2 (W4 m ρ c) (Proc.devRef .tc main_v4) = _
  have hb' := (W4_args m ρ c main_arg8 (by decide)).trans hb
  unfold hostOps2
  after_reads_simp
  rw [hb']
  exact bias _ _

/-- What the kernel leaves. -/
def res : FVec Ideal S2x4096x1024 .f32 := up3 (fun a l d => Column.res (fun n => Blocks.proj x0 w0 b0 a n d) (fun n => Blocks.proj x1 w1 b1 a n d)
  (fun n => Blocks.proj x2 w2 b2 a n d) l)

/-- From real arguments the kernel's result array is `res` of them. -/
theorem result (hx0 : m ((c.tc : Thread nD τ).loc main_arg0) = (up3 x0 : FVec Ideal S2x4096x1024 .f32))
    (hx1 : m ((c.tc : Thread nD τ).loc main_arg1) = (up3 x1 : FVec Ideal S2x4096x1024 .f32))
    (hx2 : m ((c.tc : Thread nD τ).loc main_arg2) = (up3 x2 : FVec Ideal S2x4096x1024 .f32))
    (hw0 : m ((c.tc : Thread nD τ).loc main_arg3) = (up2 w0 : FVec Ideal S1024x1024 .f32)) (hb0 : m ((c.tc : Thread nD τ).loc main_arg4) = (up1 b0 : FVec Ideal S1024 .f32))
    (hw1 : m ((c.tc : Thread nD τ).loc main_arg5) = (up2 w1 : FVec Ideal S1024x1024 .f32)) (hb1 : m ((c.tc : Thread nD τ).loc main_arg6) = (up1 b1 : FVec Ideal S1024 .f32))
    (hw2 : m ((c.tc : Thread nD τ).loc main_arg7) = (up2 w2 : FVec Ideal S1024x1024 .f32)) (hb2 : m ((c.tc : Thread nD τ).loc main_arg8) = (up1 b2 : FVec Ideal S1024 .f32)) :
    W8 m ρ c (Proc.devRef .tc main_v29) = res x0 x1 x2 w0 w1 w2 b0 b1 b2 := by
  refine (W8_arr m ρ c 7).trans (Blocks.fused (V7 m ρ) c _ _ _ (Tables.v23 _) (Tables.v25 _) (Tables.v26 _) (Tables.v28 _) ?_ ?_ ?_)
  · exact (W7_of m ρ c _ (by decide)).trans <| (W6_of m ρ c _ (by decide)).trans <| (W5_of m ρ c _ (by decide)).trans <|
      (W4_of m ρ c _ (by decide)).trans <| (W3_of m ρ c _ (by decide)).trans (left0 m ρ c x0 w0 b0 hx0 hw0 hb0)
  · exact (W7_of m ρ c _ (by decide)).trans <| (W6_of m ρ c _ (by decide)).trans <| (W5_of m ρ c _ (by decide)).trans (left1 m ρ c x1 w1 b1 hx1 hw1 hb1)
  · exact (W7_of m ρ c _ (by decide)).trans (left2 m ρ c x2 w2 b2 hx2 hw2 hb2)

end Cert.KernelRun

end
-- ==== Proof.RefCorr.lean ====
/- The reference's correlation: its projections, its sums of cosines and sines, and the inverse transform's real part, over
   real entry contents. -/
module

public import proofs.«01_k».proof.Proof.Tables
public import proofs.«01_k».proof.Proof.Gen.ReferenceIdeal.Run
public import Idealize.ShloMosaic.Lib.Pointwise

@[expose] public section

set_option maxRecDepth 16384

noncomputable section

namespace Cert.RefCorr

open Idealize.ShloMosaic Idealize.ShloMosaic.TcCoe Cert.ReferenceIdeal Cert.ReferenceIdeal.Gen Cert.Up Finset

/-! ### The projections -/

/-- The host's product with a weight matrix, on reals. -/
theorem dotProj (x : ℕ → ℕ → ℕ → ℝ) (w : ℕ → ℕ → ℝ) :
    Host.dotGeneral dot_S2x4096x1024_S1024x1024_S2x4096x1024_2_0_01_1_n_n none (up3 x : FVec Ideal S2x4096x1024 .f32) (up2 w : FVec Ideal S1024x1024 .f32)
      = (up3 (fun b n d => ∑ k ∈ range 1024, x b n k * w k d) : FVec Ideal S2x4096x1024 .f32) := by
  funext j
  pointwise
  simp only [up3, up2, ValueIdx.ix3_0, ValueIdx.ix3_1, ValueIdx.ix3_2, ValueIdx.ix2_0, ValueIdx.ix2_1]
  rw [coe_sum, Finset.sum_range]
  exact Finset.sum_congr rfl fun k _ => (EReal.coe_mul _ _).symm

/-- The bias for every position. -/
theorem bias (B : ℕ → ℝ) : broadcastInDim S2x4096x1024 ![0, 1, 2] bcast_S1x1x1024_S2x4096x1024_0_1_2
    (broadcastInDim S1x1x1024 ![2] bcast_S1024_S1x1x1024_2 (up1 B : FVec Ideal S1024 .f32)) = up3 (fun _ _ d => B d) := rfl

/-- A projection of the reference is `Blocks.proj`. -/
theorem proj (x : ℕ → ℕ → ℕ → ℝ) (w : ℕ → ℕ → ℝ) (B : ℕ → ℝ) :
    addf (Host.dotGeneral dot_S2x4096x1024_S1024x1024_S2x4096x1024_2_0_01_1_n_n none (up3 x : FVec Ideal S2x4096x1024 .f32) (up2 w : FVec Ideal S1024x1024 .f32) : FVec Ideal S2x4096x1024 .f32)
      (broadcastInDim S2x4096x1024 ![0, 1, 2] bcast_S1x1x1024_S2x4096x1024_0_1_2
        (broadcastInDim S1x1x1024 ![2] bcast_S1024_S1x1x1024_2 (up1 B : FVec Ideal S1024 .f32))) = up3 (Blocks.proj x w B) := by
  rw [dotProj, bias, addf_up3]
  rfl

/-! ### The transforms -/

/-- A product with a table of the transform, its channel axis before the frequency. -/
theorem dotDft (x : ℕ → ℕ → ℕ → ℝ) (C : ℕ → ℕ → ℝ) :
    Host.dotGeneral dot_S2x4096x1024_S4096x4096_S2x1024x4096_1_1_02_0_n_n none (up3 x : FVec Ideal S2x4096x1024 .f32) (up2 C : FVec Ideal S4096x4096 .f32)
      = (up3 (fun b d f => ∑ n ∈ range 4096, x b n d * C f n) : FVec Ideal S2x1024x4096 .f32) := by
  funext j
  pointwise
  simp only [up3, up2, ValueIdx.ix3_0, ValueIdx.ix3_1, ValueIdx.ix3_2, ValueIdx.ix2_0, ValueIdx.ix2_1]
  rw [coe_sum, Finset.sum_range]
  exact Finset.sum_congr rfl fun k _ => (EReal.coe_mul _ _).symm

/-- The last two axes exchanged, to positions before channels. -/
theorem swapBack (X : ℕ → ℕ → ℕ → ℝ) (h : S2x1024x4096.Transposes [0, 2, 1] S2x4096x1024) :
    transpose S2x4096x1024 [0, 2, 1] (up3 X : FVec Ideal S2x1024x4096 .f32) h = up3 (fun a b c => X a c b) := by
  funext j
  exact (transpose_apply _ (up3 X : FVec Ideal S2x1024x4096 .f32) h j (ValueIdx.ix3 (n0 := 2) (n1 := 1024) (n2 := 4096) (j 0) (j 2) (j 1))
    fun c => match c with | ⟨0, _⟩ => rfl | ⟨1, _⟩ => rfl | ⟨2, _⟩ => rfl).trans rfl

/-- The last two axes exchanged, to channels before positions. -/
theorem swapFwd (X : ℕ → ℕ → ℕ → ℝ) (h : S2x4096x1024.Transposes [0, 2, 1] S2x1024x4096) :
    transpose S2x1024x4096 [0, 2, 1] (up3 X : FVec Ideal S2x4096x1024 .f32) h = up3 (fun a b c => X a c b) := by
  funext j
  exact (transpose_apply _ (up3 X : FVec Ideal S2x4096x1024 .f32) h j (ValueIdx.ix3 (n0 := 2) (n1 := 4096) (n2 := 1024) (j 0) (j 2) (j 1))
    fun c => match c with | ⟨0, _⟩ => rfl | ⟨1, _⟩ => rfl | ⟨2, _⟩ => rfl).trans rfl

/-- The quotient by 4096. -/
theorem div4096 (X : ℕ → ℕ → ℕ → ℝ) :
    Host.divf (up3 X : FVec Ideal S2x4096x1024 .f32) (broadcastInDim S2x4096x1024 ![] bcast_S_S2x4096x1024 (constant S_ .f32 0x45800000#32))
      = up3 (fun a b c => X a b c / 4096) := by
  have h : Ideal.ofBits .f32 0x45800000#32 = ((4096 : ℝ) : EReal) := by
    simp [Ideal.ofBits, Ideal.ieee]; rw [← EReal.coe_mul]; norm_num
  funext i
  show Ideal.div ((X (i 0).val (i 1).val (i 2).val : ℝ) : EReal) (Ideal.ofBits .f32 0x45800000#32) = _
  rw [h, Ideal.div_coe (by norm_num), ← EReal.coe_mul, mul_one_div]
  rfl

/-! ### The whole turns -/

/-- The products of a frequency and a position, up to whole turns. -/
abbrev nm : IVec S4096x4096 32 := Host.remsi (muli
  (broadcastInDim S4096x4096 ![0, 1] bcast_S4096x1_S4096x4096_0_1 (broadcastInDim S4096x1 ![0] bcast_S4096_S4096x1_0 (iotaInDim S4096 32 0)))
  (broadcastInDim S4096x4096 ![0, 1] bcast_S1x4096_S4096x4096_0_1 (broadcastInDim S1x4096 ![1] bcast_S4096_S1x4096_1 (iotaInDim S4096 32 0))))
  (broadcastInDim S4096x4096 ![] bcast_S_S4096x4096 (constantI S_ 32 4096#32))

/-- A remainder of words that read as small naturals. -/
theorem remsi_ofNat (a b : ℕ) (ha : a < 2 ^ 31) (hb : 0 < b) (hb' : b < 2 ^ 31) :
    IntOp.remsi .host (BitVec.ofNat 32 a) (BitVec.ofNat 32 b) = BitVec.ofNat 32 (a % b) := by
  rw [IntOp.remsi_of_pos _ (by rw [Tables.toInt_ofNat b hb']; omega)]
  apply BitVec.eq_of_toInt_eq
  have := Nat.mod_le a b
  rw [BitVec.toInt_srem, Tables.toInt_ofNat a ha, Tables.toInt_ofNat b hb', Tables.toInt_ofNat _ (by omega)]
  exact (Int.ofNat_tmod a b).symm

/-- Such a product's word. -/
theorem nm_apply (i : S4096x4096.Idx) : nm i = BitVec.ofNat 32 ((i 0).val * (i 1).val % 4096) := by
  show IntOp.remsi .host (BitVec.ofNat 32 (i 0).val * BitVec.ofNat 32 (i 1).val) (BitVec.ofNat 32 4096) = _
  have h0 : (i 0).val < 4096 := (i 0).isLt
  have h1 : (i 1).val < 4096 := (i 1).isLt
  rw [← BitVec.ofNat_mul]
  exact remsi_ofNat _ _ (by nlinarith) (by omega) (by omega)

/-- The angles of the transform's tables. -/
abbrev angle : FVec Ideal S4096x4096 .f32 := mulf (sitofp .f32 nm) (broadcastInDim S4096x4096 ![] bcast_S_S4096x4096
      (mulf (Host.acos (constant S_ .f32 0xBF800000#32 : FVec Ideal S_ .f32)) (constant S_ .f32 0x3A000000#32)))

/-- Such an angle as 4096ths of a turn. -/
theorem angle_eq : angle = up2 (fun a b => 2 * Real.pi * ((a * b % 4096 : ℕ) : ℝ) / 4096) := by
  funext i
  have h := congrFun (Tables.pi_scale _ _ Tables.w2048) ValueIdx.ix0
  show (((nm i).toInt : ℝ) : EReal) * (mulf (Host.acos (constant S_ .f32 0xBF800000#32 : FVec Ideal S_ .f32)) (constant S_ .f32 0x3A000000#32)) ValueIdx.ix0 = _
  refine (congrArg (fun s => (((nm i).toInt : ℝ) : EReal) * s) h).trans ?_
  have := Nat.mod_lt ((i 0).val * (i 1).val) (show 4096 > 0 by omega)
  rw [nm_apply, Tables.toInt_ofNat _ (by omega), ← EReal.coe_mul]
  exact congrArg ((↑) : ℝ → EReal) (Tables.turn4096 _)

/-- The table of cosines. -/
theorem cos_eq : Host.cos angle = up2 (fun a b => Fourier.co (a * b)) := by
  rw [angle_eq, show (fun a b => Fourier.co (a * b)) = fun a b => Fourier.co (a * b % 4096) from funext₂ fun a b => (Fourier.co_mod _).symm]
  rfl
/-- The table of sines. -/
theorem sin_eq : Host.sin angle = up2 (fun a b => Fourier.si (a * b)) := by
  rw [angle_eq, show (fun a b => Fourier.si (a * b)) = fun a b => Fourier.si (a * b % 4096) from funext₂ fun a b => (Fourier.si_mod _).symm]
  rfl

/-! ### The correlation -/

/-- The reference's transform against a table, its axes put back. -/
abbrev dft (x : FVec Ideal S2x4096x1024 .f32) (C : FVec Ideal S4096x4096 .f32) : FVec Ideal S2x4096x1024 .f32 :=
  transpose S2x4096x1024 [0, 2, 1] (Host.dotGeneral dot_S2x4096x1024_S4096x4096_S2x1024x4096_1_1_02_0_n_n none x C : FVec Ideal S2x1024x4096 .f32)
    transposes_S2x1024x4096_S2x4096x1024_0_2_1

/-- The reference's correlation of the projections `x` and `y`, lags last. -/
abbrev corr (x y : FVec Ideal S2x4096x1024 .f32) : FVec Ideal S2x1024x4096 .f32 :=
  transpose S2x1024x4096 [0, 2, 1] (Host.divf
    (subf (dft (addf (mulf (dft x (Host.cos angle)) (dft y (Host.cos angle))) (mulf (dft x (Host.sin angle)) (dft y (Host.sin angle)))) (Host.cos angle))
      (dft (subf (mulf (dft x (Host.cos angle)) (dft y (Host.sin angle))) (mulf (dft x (Host.sin angle)) (dft y (Host.cos angle)))) (Host.sin angle)))
    (broadcastInDim S2x4096x1024 ![] bcast_S_S2x4096x1024 (constant S_ .f32 0x45800000#32))) transposes_S2x4096x1024_S2x1024x4096_0_2_1

/-- The transform with one table, on reals. -/
theorem dft_eq (x : ℕ → ℕ → ℕ → ℝ) (C : ℕ → ℕ → ℝ) :
    dft (up3 x) (up2 C) = up3 (fun b f d => ∑ n ∈ range 4096, x b n d * C f n) := by
  unfold dft
  rw [dotDft, swapBack]

/-- The reference's correlation of two blocks is, channel by channel, `Column.rx`. -/
theorem corr_eq (q k : ℕ → ℕ → ℕ → ℝ) :
    corr (up3 q) (up3 k) = up3 (fun b d n => Column.rx (fun n => q b n d) (fun n => k b n d) n) := by
  unfold corr
  simp only [cos_eq, sin_eq, dft_eq, mulf_up3, addf_up3, subf_up3]
  rw [div4096, swapFwd]
  congr 1
  funext b d n
  have h := Fourier.correlation (fun n => q b n d) (fun n => k b n d) n
    (fun f => Fourier.C (fun n => q b n d) f * Fourier.C (fun n => k b n d) f + Fourier.S (fun n => q b n d) f * Fourier.S (fun n => k b n d) f)
    (fun f => Fourier.S (fun n => q b n d) f * Fourier.C (fun n => k b n d) f - Fourier.C (fun n => q b n d) f * Fourier.S (fun n => k b n d) f)
    (fun _ => rfl) (fun _ => rfl)
  have hC : ∀ (x : ℕ → ℝ) f, ∑ n ∈ range 4096, x n * Fourier.co (f * n) = Fourier.C x f := fun x f => sum_congr rfl fun n _ => mul_comm _ _
  have hS : ∀ (x : ℕ → ℝ) f, ∑ n ∈ range 4096, x n * Fourier.si (f * n) = Fourier.S x f := fun x f => sum_congr rfl fun n _ => mul_comm _ _
  rw [Column.rx, div_eq_iff (by norm_num), mul_comm, ← h]
  simp only [radd3, rsub3, rmul3]
  rw [sub_eq_add_neg, ← sum_neg_distrib, ← hC, ← hS]
  refine congrArg₂ (· + ·) (sum_congr rfl fun f _ => ?_) (sum_congr rfl fun f _ => ?_)
  · rw [hC (fun n => q b n d), hC (fun n => k b n d), hS (fun n => q b n d), hS (fun n => k b n d)]
  · rw [hC (fun n => q b n d), hC (fun n => k b n d), hS (fun n => q b n d), hS (fun n => k b n d)]; ring

end Cert.RefCorr

end
-- ==== Proof.RefTop.lean ====
/- The first sixteen positions of a stable descending sort of a real sequence are the sequence's successive maxima, ties
   to the lesser position. -/
module

public import proofs.«01_k».proof.Proof.Select
public import Idealize.ShloMosaic.Lib.SortPrefix

@[expose] public section

noncomputable section

namespace Cert.RefTop

open Idealize.ShloMosaic Finset

/-- A stable sort reads its order only at a later element against an earlier one. -/
theorem insertBefore_congr {ι : Type} (B B' : ι → ι → Bool) (a : ι) (l : List ι) (h : ∀ b ∈ l, B b a = B' b a) :
    insertBefore B a l = insertBefore B' a l := by
  induction l with
  | nil => rfl
  | cons b l ih =>
    unfold insertBefore
    rw [h b List.mem_cons_self, ih fun c hc => h c (List.mem_cons_of_mem _ hc)]

/-- A stable sort asks its order only about a later element against an earlier one. -/
theorem stableSort_congr {ι : Type} (B B' : ι → ι → Bool) (l : List ι) (h : l.Pairwise fun a b => B b a = B' b a) :
    stableSort B l = stableSort B' l := by
  induction l with
  | nil => rfl
  | cons a l ih =>
    obtain ⟨ha, hl⟩ := List.pairwise_cons.1 h
    unfold stableSort
    rw [ih hl]
    exact insertBefore_congr B B' a _ fun b hb => ha b ((perm_stableSort B' l).mem_iff.1 hb)

/-- The same for the sort's positions. -/
theorem sortedFrom_congr {n : ℕ} (B B' : Fin n → Fin n → Bool) (h : ∀ a b, a < b → B b a = B' b a) (k : Fin n) :
    sortedFrom B k = sortedFrom B' k := by
  have e : sortPositions n B = sortPositions n B' := stableSort_congr B B' _ ((List.pairwise_lt_finRange n).imp fun {a b} hab => h a b hab)
  unfold sortedFrom
  simp only [List.get_eq_getElem, e, Fin.val_cast]

section
variable (r : ℕ → ℝ)

/-- Greater first, then the lesser position. -/
def before (k k' : Fin 4096) : Bool := decide (r k'.val < r k.val) || (decide (r k.val = r k'.val) && decide (k < k'))

/-- That order is total. -/
theorem before_total : StrictTotalBefore (before r) :=
  StrictTotalBefore.of_key_then_position (fun a b : ℝ => decide (b < a)) (fun k : Fin 4096 => r k.val) (fun a => by simp)
    (fun a b c h h' => by simp only [decide_eq_true_eq] at *; exact lt_trans h' h)
    fun a b => by simp only [decide_eq_true_eq]; rcases lt_trichotomy a b with h | h | h <;> simp [h]

/-- The position of round `t` of the successive maxima. -/
abbrev at_ (t : ℕ) : ℕ := Select.I (fun n => (r n : EReal)) t

/-- It is a position. -/
theorem at_lt (t : ℕ) (ht : t < 4096) : at_ r t < 4096 := (Select.round r t ht).1

/-- No position that round `t` could still take is before the one it takes. -/
theorem not_before (t : ℕ) (ht : t < 4096) (p : Fin 4096) (hp : p.val ∉ Select.taken r t) :
    before r p ⟨at_ r t, at_lt r t ht⟩ = false := by
  have h := (Select.round r t ht).2.2.2 p.val p.isLt hp
  rw [Bool.eq_false_iff]
  intro hb
  simp only [before, Bool.or_eq_true, Bool.and_eq_true, decide_eq_true_eq, Fin.lt_def] at hb
  rcases h with h | ⟨h, h'⟩ <;> rcases hb with hb | ⟨hb, hb'⟩
  · exact lt_asymm h hb
  · exact absurd hb h.ne
  · exact absurd h hb.ne'
  · exact absurd hb' (not_lt.2 h')

/-- An earlier round's position is taken. -/
theorem mem_taken (s t : ℕ) (h : s < t) : at_ r s ∈ Select.taken r t := mem_image.2 ⟨s, mem_range.2 h, rfl⟩

/-- No position is taken twice. -/
theorem at_ne (s t : ℕ) (ht : t < 4096) (h : s < t) : at_ r s ≠ at_ r t := fun e => by
  have hm := mem_taken r s t h
  rw [e] at hm
  exact (Select.round r t ht).2.1 hm

/-- A round's position was not taken before. -/
theorem not_taken (s t : ℕ) (ht : t < 4096) (h : s ≤ t) : at_ r t ∉ Select.taken r s := fun hm => by
  obtain ⟨u, hu, e⟩ := mem_image.1 hm
  exact at_ne r u t ht (lt_of_lt_of_le (mem_range.1 hu) h) e

/-- The position that the sort puts at `j`. -/
theorem sortedFrom_eq (j : Fin 16) (hj : 16 ≤ 4096) :
    sortedFrom (fun k k' : Fin 4096 => Ideal.cmp .ogt (r k.val : EReal) (r k'.val : EReal) == 1#1) (j.castLE hj)
      = ⟨at_ r j.val, at_lt r _ (by omega)⟩ := by
  rw [sortedFrom_congr _ (before r) fun a b hab => ?_]
  · refine (before_total r).sortedFrom_eq_of_prefix hj (fun j : Fin 16 => ⟨at_ r j.val, at_lt r _ (by omega)⟩) ?_ ?_ ?_ j
    · intro i i' e
      have e' : at_ r i.val = at_ r i'.val := congrArg Fin.val e
      rcases lt_trichotomy i.val i'.val with h | h | h
      · exact absurd e' (at_ne r _ _ (by omega) h)
      · exact Fin.ext h
      · exact absurd e'.symm (at_ne r _ _ (by omega) h)
    · intro i i' h
      exact not_before r i.val (by omega) ⟨at_ r i'.val, _⟩ (not_taken r _ _ (by omega) (le_of_lt h))
    · intro i p hp
      refine not_before r i.val (by omega) p fun hm => ?_
      obtain ⟨u, hu, e⟩ := mem_image.1 hm
      exact hp ⟨u, by have := mem_range.1 hu; omega⟩ (Fin.ext e)
  · have h1 : ∀ c : Bool, (BitVec.ofBool c == 1#1) = c := by decide
    show (BitVec.ofBool (decide ((r a.val : EReal) < (r b.val : EReal))) == 1#1) = _
    rw [h1, before, show decide (b < a) = false from decide_eq_false (not_lt.2 hab.le), Bool.and_false, Bool.or_false]
    exact decide_eq_decide.2 EReal.coe_lt_coe_iff

end

end Cert.RefTop

end
-- ==== Proof.RefRes.lean ====
/- The reference's result: the sixteen largest correlations and their lags, the softmax, the rolled values and the weighted
   sum, over real entry contents. -/
module

public import proofs.«01_k».proof.Proof.RefCorr
public import proofs.«01_k».proof.Proof.RefTop
public import Idealize.ShloMosaic.Lib.ValueIdx

@[expose] public section

set_option maxRecDepth 16384

noncomputable section

namespace Cert.RefRes

open Idealize.ShloMosaic Idealize.ShloMosaic.TcCoe Cert.ReferenceIdeal Cert.ReferenceIdeal.Gen Cert.Up Finset

/-- A real function of four coordinates as an array of extended reals. -/
def up4 {n0 n1 n2 n3 : ℕ} {φ : FTy} (f : ℕ → ℕ → ℕ → ℕ → ℝ) : FVec Ideal ⟨4, ![n0, n1, n2, n3]⟩ φ :=
  fun i => ((f (i 0).val (i 1).val (i 2).val (i 3).val : ℝ) : EReal)

section
variable (R : ℕ → ℕ → ℕ → ℝ)

/-- The `j`-th largest's position in the fiber at `(b, d)`. -/
abbrev lg (b d j : ℕ) : ℕ := Select.I (fun n => (R b d n : EReal)) j

/-- The host's sixteen greatest values of each channel, with their positions. -/
abbrev top (x : FVec Ideal S2x1024x4096 .f32) : FVec Ideal S2x1024x16 .f32 × IVec S2x1024x16 32 :=
  Host.topK S2x1024x16 2 (FloatOps.cmpfTotal .gt) x sliceFits_S2x1024x4096_S2x1024x16

/-- The slice's position in the sorted array. -/
abbrev cell (i : S2x1024x16.Idx) : S2x1024x4096.Idx :=
  ValueIdx.ix3 (n0 := 2) (n1 := 1024) (n2 := 4096) (i 0) (i 1) (Fin.castLE (show 16 ≤ 4096 by omega) (i 2))

/-- The position of the fiber that the sort puts there. -/
abbrev src (x : FVec Ideal S2x1024x4096 .f32) (i : S2x1024x16.Idx) : Fin 4096 :=
  sortedFrom (fun k k' : Fin 4096 => FloatOps.cmpfTotal .gt (x ((cell i).along 2 k)) (x ((cell i).along 2 k')) == 1#1) (cell i 2)

/-- That position is the one of the successive maxima. -/
theorem src_eq (i : S2x1024x16.Idx) :
    src (up3 R) i = ⟨lg R (i 0).val (i 1).val (i 2).val, RefTop.at_lt (R (i 0).val (i 1).val) _ (by have : (i 2).val < 16 := (i 2).isLt; omega)⟩ :=
  RefTop.sortedFrom_eq (R (i 0).val (i 1).val) (i 2) (by omega)

/-- The slice starts at zero on every axis. -/
theorem cell_val (i : S2x1024x16.Idx) (a : Fin 3) : (cell i a).val = 0 + (i a).val := by
  rw [Nat.zero_add]
  match a with
  | ⟨0, _⟩ => rfl
  | ⟨1, _⟩ => rfl
  | ⟨2, _⟩ => rfl

/-- The values: those at the successive maxima. -/
theorem top_val : (top (up3 R)).1 = up3 (fun b d j => R b d (lg R b d j)) := by
  funext i
  unfold top Host.topK
  dsimp only
  rw [extractStridedSlice_apply (fun _ => 0) _ sliceFits_S2x1024x4096_S2x1024x16 i (cell i) (cell_val i)]
  show (up3 R : FVec Ideal S2x1024x4096 .f32) ((cell i).along 2 (src (up3 R) i)) = _
  rw [src_eq]
  rfl

/-- The positions: those of the successive maxima. -/
theorem top_pos : (top (up3 R)).2 = fun i => BitVec.ofNat 32 (lg R (i 0).val (i 1).val (i 2).val) := by
  funext i
  unfold top Host.topK
  dsimp only
  rw [extractStridedSlice_apply (fun _ => 0) _ sliceFits_S2x1024x4096_S2x1024x16 i (cell i) (cell_val i)]
  show (iotaInDim S2x1024x4096 32 2) ((cell i).along 2 (src (up3 R) i)) = _
  rw [src_eq]
  rfl

end

/-- A lag taken is a position. -/
theorem lg_lt (R : ℕ → ℕ → ℕ → ℝ) (b d j : ℕ) (hj : j < 16) : lg R b d j < 4096 := RefTop.at_lt (R b d) j (by omega)

/-- The first position taken holds the largest value. -/
theorem lg_max (R : ℕ → ℕ → ℕ → ℝ) (b d j : ℕ) (hj : j < 16) : R b d (lg R b d j) ≤ R b d (lg R b d 0) := by
  rcases (Select.round (R b d) 0 (by omega)).2.2.2 (lg R b d j) (lg_lt R b d j hj) (by simp [Select.taken]) with h | h
  · exact h.le
  · exact h.1.le

/-! ### The softmax -/

/-- The maximum of each channel's sixteen values. -/
abbrev rowMax (x : FVec Ideal S2x1024x16 .f32) : FVec Ideal S2x1024 .f32 :=
  maximumf (broadcastInDim S2x1024 ![] bcast_S_S2x1024 (constant S_ .f32 0xFF800000#32))
    (Host.reduce FloatOps.maximumf x (constant S_ .f32 0xFF800000#32 : FVec Ideal S_ .f32) reducesTo_S2x1024x16_S2x1024_d2 h_S_)

/-- It is the first of them where that is the greatest. -/
theorem rowMax_eq (X : ℕ → ℕ → ℕ → ℝ) (hX : ∀ b d j, j < 16 → X b d j ≤ X b d 0) : rowMax (up3 X) = up2 (fun b d => X b d 0) := by
  funext i
  unfold rowMax
  pointwise
  have h0 : Ideal.ofBits FTy.f32 4286578688#32 = ⊥ := by simp [Ideal.ofBits, Ideal.ieee]
  rw [h0, max_eq_right bot_le]
  refine le_antisymm ?_ ?_
  · refine (Finset.fold_max_le _).mpr ⟨bot_le, fun k _ => ?_⟩
    exact EReal.coe_le_coe_iff.mpr (hX _ _ _ k.isLt)
  · exact (Finset.le_fold_max _).mpr (Or.inr ⟨(⟨0, by omega⟩ : Fin 16), Finset.mem_univ _, le_refl _⟩)

/-- A channel's number for each of its sixteen values. -/
abbrev rows (x : FVec Ideal S2x1024 .f32) : FVec Ideal S2x1024x16 .f32 :=
  broadcastInDim S2x1024x16 ![0, 1, 2] bcast_S2x1024x1_S2x1024x16_0_1_2 (broadcastInDim S2x1024x1 ![0, 1] bcast_S2x1024_S2x1024x1_0_1 x)

/-- The same on reals. -/
theorem rows_eq (X : ℕ → ℕ → ℝ) : rows (up2 X) = up3 (fun b d _ => X b d) := rfl

/-- The sum of a channel's sixteen values. -/
theorem rowSum_eq (X : ℕ → ℕ → ℕ → ℝ) :
    Host.reduceAdd (up3 X : FVec Ideal S2x1024x16 .f32) (constant S_ .f32 0x00000000#32) reducesTo_S2x1024x16_S2x1024_d2 h_S_
      = up2 (fun b d => ∑ u ∈ range 16, X b d u) := by
  funext i
  pointwise
  simp only [up3, up2, ValueIdx.ix3_0, ValueIdx.ix3_1, ValueIdx.ix3_2]
  rw [coe_sum, Finset.sum_range]
  rfl

/-- The exponentials of the differences to the maximum. -/
abbrev weights (x : FVec Ideal S2x1024x16 .f32) : FVec Ideal S2x1024x16 .f32 :=
  Host.exp (subf x (rows (rowMax x)))

/-- The same on reals. -/
theorem weights_eq (X : ℕ → ℕ → ℕ → ℝ) (hX : ∀ b d j, j < 16 → X b d j ≤ X b d 0) :
    weights (up3 X) = up3 (fun b d j => Real.exp (X b d j - X b d 0)) := by
  unfold weights
  rw [rowMax_eq X hX, rows_eq]
  funext i
  rfl

/-- The softmax. -/
abbrev soft (x : FVec Ideal S2x1024x16 .f32) : FVec Ideal S2x1024x16 .f32 :=
  Host.divf (weights x) (rows (Host.reduceAdd (weights x) (constant S_ .f32 0x00000000#32) reducesTo_S2x1024x16_S2x1024_d2 h_S_))

/-- The softmax on reals. -/
theorem soft_eq (X : ℕ → ℕ → ℕ → ℝ) (hX : ∀ b d j, j < 16 → X b d j ≤ X b d 0) :
    soft (up3 X) = up3 (fun b d j => Real.exp (X b d j - X b d 0) / ∑ u ∈ range 16, Real.exp (X b d u - X b d 0)) := by
  unfold soft
  rw [weights_eq X hX, rowSum_eq, rows_eq]
  funext i
  have hs : (∑ u ∈ range 16, Real.exp (X (i 0).val (i 1).val u - X (i 0).val (i 1).val 0)) ≠ 0 :=
    (Finset.sum_pos (fun u _ => Real.exp_pos _) ⟨0, Finset.mem_range.mpr (by omega)⟩).ne'
  show Ideal.div _ _ = _
  exact (Ideal.div_coe hs _).trans ((EReal.coe_mul _ _).symm.trans (congrArg _ (mul_one_div _ _)))

/-! ### The rows read -/

/-- A position and a lag added, modulo 4096. -/
abbrev turned (p : IVec S2x1024x16 32) : IVec S2x1024x16x4096 32 :=
  Host.remsi
    (addi
      (broadcastInDim S2x1024x16x4096 ![0, 1, 2, 3] bcast_S1x1x1x4096_S2x1024x16x4096_0_1_2_3
        (broadcastInDim S1x1x1x4096 ![3] bcast_S4096_S1x1x1x4096_3 (iotaInDim S4096 32 0)))
      (broadcastInDim S2x1024x16x4096 ![0, 1, 2, 3] bcast_S2x1024x16x1_S2x1024x16x4096_0_1_2_3
        (broadcastInDim S2x1024x16x1 ![0, 1, 2] bcast_S2x1024x16_S2x1024x16x1_0_1_2 p)))
    (broadcastInDim S2x1024x16x4096 ![] bcast_S_S2x1024x16x4096 (constantI S_ 32 4096#32))

/-- The same on natural numbers. -/
theorem turned_eq (g : ℕ → ℕ → ℕ → ℕ) (hg : ∀ b d j, j < 16 → g b d j < 4096) :
    turned (fun i => BitVec.ofNat 32 (g (i 0).val (i 1).val (i 2).val))
      = fun i => BitVec.ofNat 32 (((i 3).val + g (i 0).val (i 1).val (i 2).val) % 4096) := by
  funext i
  show IntOp.remsi .host (BitVec.ofNat 32 (i 3).val + BitVec.ofNat 32 (g (i 0).val (i 1).val (i 2).val)) (BitVec.ofNat 32 4096) = _
  rw [← BitVec.ofNat_add]
  have h3 : (i 3).val < 4096 := (i 3).isLt
  have := hg (i 0).val (i 1).val _ (i 2).isLt
  exact RefCorr.remsi_ofNat _ _ (by omega) (by omega) (by omega)

/-- A negative index counted from the end. -/
abbrev wrapped (t : IVec S2x1024x16x4096 32) : IVec S2x1024x16x4096 32 :=
  select (cmpi .slt t (broadcastInDim S2x1024x16x4096 ![] bcast_S_S2x1024x16x4096 (constantI S_ 32 0#32)))
    (addi t (broadcastInDim S2x1024x16x4096 ![] bcast_S_S2x1024x16x4096 (constantI S_ 32 4096#32))) t

/-- No index here is negative. -/
theorem wrapped_eq (g : ℕ → ℕ → ℕ → ℕ → ℕ) (hg : ∀ b d j l, g b d j l < 4096) :
    wrapped (fun i => BitVec.ofNat 32 (g (i 0).val (i 1).val (i 2).val (i 3).val))
      = fun i => BitVec.ofNat 32 (g (i 0).val (i 1).val (i 2).val (i 3).val) := by
  funext i
  have hb := hg (i 0).val (i 1).val (i 2).val (i 3).val
  have hc : IntOp.cmpi .slt (BitVec.ofNat 32 (g (i 0).val (i 1).val (i 2).val (i 3).val)) 0#32 = 0#1 := by
    generalize g (i 0).val (i 1).val (i 2).val (i 3).val = a at hb
    have hi := Tables.toInt_ofNat a (by omega)
    simp only [IntOp.cmpi, BitVec.slt, hi]
    rw [decide_eq_false (show ¬ ((a : ℤ) < (0#32).toInt) by simp)]
    rfl
  show (if IntOp.cmpi .slt (BitVec.ofNat 32 (g (i 0).val (i 1).val (i 2).val (i 3).val)) 0#32 = 1#1 then _ else _) = _
  rw [hc]
  rfl

/-- The word that holds the start of a position's row. -/
def five (y : S2x1024x16x4096.Idx) : S2x1024x16x4096x1.Idx := fun a => match a with
  | ⟨0, _⟩ => y 0
  | ⟨1, _⟩ => y 1
  | ⟨2, _⟩ => y 2
  | ⟨3, _⟩ => y 3
  | ⟨4, _⟩ => (0 : Fin 1)

/-- The dimensions of the gather: batch and channel go along, the position is looked up. -/
abbrev gd : GatherDims S2x1024x4096 S2x1024x16x4096x1 S2x1024x16x4096 :=
  gather_S2x1024x4096_S2x1024x16x4096x1_S2x1024x16x4096_n_2_01_01_2_4_111

/-- A batching axis keeps the position. -/
theorem coord_batch (idx : IVec S2x1024x16x4096x1 32) (y : S2x1024x16x4096.Idx) (a : Fin 3) (ha : a ∈ gd.operandBatchingDims) :
    gd.start y idx a + gd.batchCoord y a + gd.offCoord y a = gd.batchCoord y a := by
  rw [GatherDims.start_batching _ _ _ _ ha, GatherDims.offCoord_eq_zero _ _ _ (fun h => ((GatherDims.mem_sKept _ _).mp h).2 ha)]
  omega

/-- The batch of a position. -/
theorem batch0 (y : S2x1024x16x4096.Idx) : gd.batchCoord y (0 : Fin 3) = (y 0).val := by
  unfold GatherDims.batchCoord
  rw [dif_pos (show (0 : Fin 3) ∈ gd.operandBatchingDims from by decide)]
  rfl

/-- The channel of a position. -/
theorem batch1 (y : S2x1024x16x4096.Idx) : gd.batchCoord y (1 : Fin 3) = (y 1).val := by
  unfold GatherDims.batchCoord
  rw [dif_pos (show (1 : Fin 3) ∈ gd.operandBatchingDims from by decide)]
  rfl

/-- The indexed axis takes the word of the start. -/
theorem coord2 (idx : IVec S2x1024x16x4096x1 32) (y : S2x1024x16x4096.Idx) :
    gd.start y idx (2 : Fin 3) + gd.batchCoord y (2 : Fin 3) + gd.offCoord y (2 : Fin 3) = min (idx (five y)).toInt.toNat 4095 := by
  have h2 : (2 : Fin 3) ∈ gd.startIndexMap := by decide
  rw [GatherDims.batchCoord_eq_zero _ _ _ (show ¬ (2 : Fin 3) ∈ gd.operandBatchingDims from by decide),
    GatherDims.offCoord_eq_zero _ _ _ (fun h => ((GatherDims.mem_sKept _ _).mp h).1 (show (2 : Fin 3) ∈ gd.collapsedSliceDims from by decide))]
  simp only [Nat.add_zero]
  unfold GatherDims.start
  rw [dif_pos h2]
  have hsi : gd.siIdx y ⟨List.idxOf (2 : Fin 3) gd.startIndexMap, List.idxOf_lt_length_iff.2 h2⟩ = five y := by
    funext b; refine Fin.ext ?_
    match b with
    | ⟨0, _⟩ => rfl
    | ⟨1, _⟩ => rfl
    | ⟨2, _⟩ => rfl
    | ⟨3, _⟩ => rfl
    | ⟨4, _⟩ => rfl
  rw [hsi]
  rfl

/-- The gather reads the channel at the word of the start, kept within the channel. -/
theorem gather_apply (x : FVec Ideal S2x1024x4096 .f32) (idx : IVec S2x1024x16x4096x1 32) (y : S2x1024x16x4096.Idx) :
    Host.gather gd x idx y
      = x (ValueIdx.ix3 (n0 := 2) (n1 := 1024) (n2 := 4096) (y 0) (y 1) ⟨min (idx (five y)).toInt.toNat 4095, by omega⟩) := by
  unfold Host.gather
  congr 1
  funext a
  refine Fin.ext ?_
  match a with
  | ⟨0, _⟩ => exact (coord_batch idx y 0 (by decide)).trans (batch0 y)
  | ⟨1, _⟩ => exact (coord_batch idx y 1 (by decide)).trans (batch1 y)
  | ⟨2, _⟩ => exact coord2 idx y

/-- The starts, each in an axis of its own. -/
abbrev starts (t : IVec S2x1024x16x4096 32) : IVec S2x1024x16x4096x1 32 :=
  shapeCast S2x1024x16x4096x1 t shapeCasts_S2x1024x16x4096_S2x1024x16x4096x1

/-- The start of a position. -/
theorem starts_five (t : IVec S2x1024x16x4096 32) (y : S2x1024x16x4096.Idx) : starts t (five y) = t y := by
  refine shapeCast_apply _ _ (five y) y ?_
  refine (Shape.rowMajor_val_four (d := ![2, 1024, 16, 4096]) y).trans
    (Eq.trans ?_ (Shape.rowMajor_val_five (d := ![2, 1024, 16, 4096, 1]) (five y)).symm)
  show (((y 0).val * 1024 + (y 1).val) * 16 + (y 2).val) * 4096 + (y 3).val
    = ((((y 0).val * 1024 + (y 1).val) * 16 + (y 2).val) * 4096 + (y 3).val) * 1 + 0
  omega

/-- The values with channels before positions. -/
abbrev vals (x : FVec Ideal S2x4096x1024 .f32) : FVec Ideal S2x1024x4096 .f32 :=
  shapeCast S2x1024x4096 (broadcastInDim S2x1024x1x4096 ![0, 1, 3] bcast_S2x1024x4096_S2x1024x1x4096_0_1_3
    (transpose S2x1024x4096 [0, 2, 1] x transposes_S2x4096x1024_S2x1024x4096_0_2_1)) shapeCasts_S2x1024x1x4096_S2x1024x4096

/-- The same on reals. -/
theorem vals_eq (V : ℕ → ℕ → ℕ → ℝ) : vals (up3 V) = up3 (fun b d n => V b n d) := by
  unfold vals
  rw [RefCorr.swapFwd]
  funext y
  let k : S2x1024x1x4096.Idx := fun a => match a with
    | ⟨0, _⟩ => y 0
    | ⟨1, _⟩ => y 1
    | ⟨2, _⟩ => (0 : Fin 1)
    | ⟨3, _⟩ => y 2
  refine (shapeCast_apply _ _ y k ?_).trans rfl
  refine (Shape.rowMajor_val_four (d := ![2, 1024, 1, 4096]) k).trans
    (Eq.trans ?_ (Shape.rowMajor_val_three (d := ![2, 1024, 4096]) y).symm)
  show (((y 0).val * 1024 + (y 1).val) * 1 + 0) * 4096 + (y 2).val = ((y 0).val * 1024 + (y 1).val) * 4096 + (y 2).val
  omega

/-- The values at the turned positions. -/
theorem taken_eq (V : ℕ → ℕ → ℕ → ℝ) (g : ℕ → ℕ → ℕ → ℕ) (hg : ∀ b d j, j < 16 → g b d j < 4096) :
    (Host.gather gd (vals (up3 V)) (starts (wrapped (turned (fun i => BitVec.ofNat 32 (g (i 0).val (i 1).val (i 2).val)))))
        : FVec Ideal S2x1024x16x4096 .f32)
      = up4 (fun b d j l => V b ((l + g b d j) % 4096) d) := by
  rw [turned_eq g hg]
  have hw := wrapped_eq (fun b d j l => (l + g b d j) % 4096) (fun _ _ _ _ => Nat.mod_lt _ (by omega))
  rw [hw, vals_eq]
  funext y
  have hl : ((y 3).val + g (y 0).val (y 1).val (y 2).val) % 4096 < 4096 := Nat.mod_lt _ (by omega)
  have hm : min (BitVec.ofNat 32 (((y 3).val + g (y 0).val (y 1).val (y 2).val) % 4096)).toInt.toNat 4095
      = ((y 3).val + g (y 0).val (y 1).val (y 2).val) % 4096 := by
    rw [Tables.toInt_ofNat _ (by omega), Int.toNat_natCast]
    omega
  refine (gather_apply _ _ y).trans ?_
  refine congrArg (fun n => ((V (y 0).val n (y 1).val : ℝ) : EReal)) (Eq.trans ?_ hm)
  exact congrArg (fun z : BitVec 32 => min z.toInt.toNat 4095) (starts_five _ y)

/-! ### The reference's result -/

/-- A weight for every position. -/
abbrev lanes (x : FVec Ideal S2x1024x16 .f32) : FVec Ideal S2x1024x16x4096 .f32 :=
  broadcastInDim S2x1024x16x4096 ![0, 1, 2, 3] bcast_S2x1024x16x1_S2x1024x16x4096_0_1_2_3
    (broadcastInDim S2x1024x16x1 ![0, 1, 2] bcast_S2x1024x16_S2x1024x16x1_0_1_2 x)

/-- The same on reals. -/
theorem lanes_eq (X : ℕ → ℕ → ℕ → ℝ) : lanes (up3 X) = up4 (fun b d j _ => X b d j) := rfl

/-- The sum over the sixteen lags. -/
theorem lanesSum_eq (X : ℕ → ℕ → ℕ → ℕ → ℝ) :
    Host.reduceAdd (up4 X : FVec Ideal S2x1024x16x4096 .f32) (constant S_ .f32 0x00000000#32) reducesTo_S2x1024x16x4096_S2x1024x4096_d2 h_S_
      = up3 (fun b d l => ∑ j ∈ range 16, X b d j l) := by
  funext i
  pointwise
  show _ = ((_ : ℝ) : EReal)
  rw [coe_sum, Finset.sum_range]
  rfl

/-- The product on reals. -/
theorem mulf_up4 (A B : ℕ → ℕ → ℕ → ℕ → ℝ) :
    (mulf (up4 A) (up4 B) : FVec Ideal S2x1024x16x4096 .f32) = up4 (fun a b c d => A a b c d * B a b c d) := by
  funext i; exact (EReal.coe_mul _ _).symm

/-- The reference's operations after the correlation `x`, of the projected values `v`. -/
abbrev mix (x : FVec Ideal S2x1024x4096 .f32) (v : FVec Ideal S2x4096x1024 .f32) : FVec Ideal S2x4096x1024 .f32 :=
  transpose S2x4096x1024 [0, 2, 1]
    (Host.reduceAdd (mulf (lanes (soft (top x).1)) (Host.gather gd (vals v) (starts (wrapped (turned (top x).2)))))
      (constant S_ .f32 0x00000000#32) reducesTo_S2x1024x16x4096_S2x1024x4096_d2 h_S_)
    transposes_S2x1024x4096_S2x4096x1024_0_2_1

/-- On reals, the sum over the sixteen lags of the softmax's weight times the value at the turned position. -/
theorem mix_eq (R V : ℕ → ℕ → ℕ → ℝ) :
    mix (up3 R) (up3 V) = up3 (fun b l d => ∑ j ∈ range 16,
      (Real.exp (R b d (lg R b d j) - R b d (lg R b d 0)) / ∑ u ∈ range 16, Real.exp (R b d (lg R b d u) - R b d (lg R b d 0)))
        * V b ((l + lg R b d j) % 4096) d) := by
  unfold mix
  rw [top_val, top_pos, soft_eq _ (lg_max R), taken_eq V (lg R) (lg_lt R), lanes_eq, mulf_up4, lanesSum_eq, RefCorr.swapBack]

end Cert.RefRes

end
-- ==== Proof.RefRun.lean ====
/- What the reference's result array is, over real arguments. -/
module

public import proofs.«01_k».proof.Proof.KernelRun
public import proofs.«01_k».proof.Proof.RefRes
public import proofs.«01_k».proof.Proof.Gen.ReferenceIdeal.Run

@[expose] public section

noncomputable section

namespace Cert.RefRun

open Idealize.ShloMosaic Idealize.ShloMosaic.TcCoe Cert.Up Cert.ReferenceIdeal Cert.ReferenceIdeal.Gen Finset

/-- A projection of the reference. -/
abbrev lin (x : FVec Ideal S2x4096x1024 .f32) (w : FVec Ideal S1024x1024 .f32) (b : FVec Ideal S1024 .f32) : FVec Ideal S2x4096x1024 .f32 :=
  addf (Host.dotGeneral dot_S2x4096x1024_S1024x1024_S2x4096x1024_2_0_01_1_n_n none x w) (broadcastInDim S2x4096x1024 ![0, 1, 2] bcast_S1x1x1024_S2x4096x1024_0_1_2 (broadcastInDim S1x1x1024 ![2] bcast_S1024_S1x1x1024_2 b))

/-- The reference's result, as its operations compute it. -/
theorem res_eq (m : (ℓ : Loc nD τ sig) → Buf (Elt Ideal) ℓ) (c : Dev nD) :
    Value.res_main_v74 (F := Ideal) m c
      = RefRes.mix (RefCorr.corr (lin (m ((c.tc : Thread nD τ).loc main_arg0)) (m ((c.tc : Thread nD τ).loc main_arg3)) (m ((c.tc : Thread nD τ).loc main_arg4)))
          (lin (m ((c.tc : Thread nD τ).loc main_arg1)) (m ((c.tc : Thread nD τ).loc main_arg5)) (m ((c.tc : Thread nD τ).loc main_arg6))))
        (lin (m ((c.tc : Thread nD τ).loc main_arg2)) (m ((c.tc : Thread nD τ).loc main_arg7)) (m ((c.tc : Thread nD τ).loc main_arg8))) := by
  rfl

/-- Over real arguments, the same function of them as the kernel's. -/
theorem result (m : (ℓ : Loc nD τ sig) → Buf (Elt Ideal) ℓ) (c : Dev nD) (x0 x1 x2 : ℕ → ℕ → ℕ → ℝ) (w0 w1 w2 : ℕ → ℕ → ℝ) (b0 b1 b2 : ℕ → ℝ)
    (hx0 : m ((c.tc : Thread nD τ).loc main_arg0) = (up3 x0 : FVec Ideal S2x4096x1024 .f32))
    (hx1 : m ((c.tc : Thread nD τ).loc main_arg1) = (up3 x1 : FVec Ideal S2x4096x1024 .f32))
    (hx2 : m ((c.tc : Thread nD τ).loc main_arg2) = (up3 x2 : FVec Ideal S2x4096x1024 .f32))
    (hw0 : m ((c.tc : Thread nD τ).loc main_arg3) = (up2 w0 : FVec Ideal S1024x1024 .f32)) (hb0 : m ((c.tc : Thread nD τ).loc main_arg4) = (up1 b0 : FVec Ideal S1024 .f32))
    (hw1 : m ((c.tc : Thread nD τ).loc main_arg5) = (up2 w1 : FVec Ideal S1024x1024 .f32)) (hb1 : m ((c.tc : Thread nD τ).loc main_arg6) = (up1 b1 : FVec Ideal S1024 .f32))
    (hw2 : m ((c.tc : Thread nD τ).loc main_arg7) = (up2 w2 : FVec Ideal S1024x1024 .f32)) (hb2 : m ((c.tc : Thread nD τ).loc main_arg8) = (up1 b2 : FVec Ideal S1024 .f32)) :
    Value.res_main_v74 (F := Ideal) m c = KernelRun.res x0 x1 x2 w0 w1 w2 b0 b1 b2 := by
  rw [res_eq, hx0, hx1, hx2, hw0, hb0, hw1, hb1, hw2, hb2]
  have e0 : lin (up3 x0) (up2 w0) (up1 b0) = up3 (Blocks.proj x0 w0 b0) := RefCorr.proj x0 w0 b0
  have e1 : lin (up3 x1) (up2 w1) (up1 b1) = up3 (Blocks.proj x1 w1 b1) := RefCorr.proj x1 w1 b1
  have e2 : lin (up3 x2) (up2 w2) (up1 b2) = up3 (Blocks.proj x2 w2 b2) := RefCorr.proj x2 w2 b2
  rw [e0, e1, e2, RefCorr.corr_eq, RefRes.mix_eq]
  rfl

end Cert.RefRun

end
-- ==== Proof.Algebraic.lean ====
/- The value claim: from memories that agree on finite arguments, the kernel and the reference end with one result. -/
module

public import proofs.«01_k».proof.Defs
public import proofs.«01_k».proof.Proof.Finite
public import proofs.«01_k».proof.Proof.KernelRun
public import proofs.«01_k».proof.Proof.RefRun

@[expose] public section

noncomputable section

namespace Cert.Proof.Algebraic

open Idealize.ShloMosaic Idealize.ShloMosaic.TcCoe Idealize.SL.Sem

/-- Over the extended reals the kernel and the reference, from memories that agree on finite arguments, end with equal results. -/
theorem algebraic : Cert.algebraic_KernelIdeal_ReferenceIdeal_pre_finite := by
  intro m ρ m' ρ' hpre hagree
  refine ⟨_, Cert.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  obtain ⟨h0, h1, h2, h3, h4, h5, h6, h7, h8⟩ := Cert.Finite.decode _ _ _ _ _ _ _ _ _ (hpre c)
  exact (Cert.RefRun.result m' c _ _ _ _ _ _ _ _ _ (a0.trans h0) (a1.trans h1) (a2.trans h2) (a3.trans h3) (a4.trans h4)
      (a5.trans h5) (a6.trans h6) (a7.trans h7) (a8.trans h8)).trans
    (Cert.KernelRun.result m ρ c _ _ _ _ _ _ _ _ _ h0 h1 h2 h3 h4 h5 h6 h7 h8).symm

end Cert.Proof.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Frames.preFacts,
  Frames.kernel, Frames.kernelIdeal, fun m ρ _ => Frames.kernelIdeal m ρ trivial, Frames.referenceIdeal,
  fun m ρ _ => Frames.referenceIdeal m ρ trivial, Frames.preserves, Algebraic.algebraic⟩

end Cert.Proof

end
